-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v174) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x512x512 : Shape := ⟨4, ![8, 1, 512, 512]⟩
abbrev S25x2 : Shape := ⟨2, ![25, 2]⟩
abbrev S2 : Shape := ⟨1, ![2]⟩
abbrev S8x512x512 : Shape := ⟨3, ![8, 512, 512]⟩
abbrev S1x512x512 : Shape := ⟨3, ![1, 512, 512]⟩
abbrev S512x512 : Shape := ⟨2, ![512, 512]⟩
abbrev S2x512 : Shape := ⟨2, ![2, 512]⟩
abbrev S516x512 : Shape := ⟨2, ![516, 512]⟩
abbrev S512x2 : Shape := ⟨2, ![512, 2]⟩
abbrev S512x516 : Shape := ⟨2, ![512, 516]⟩
abbrev S8x262144 : Shape := ⟨2, ![8, 262144]⟩
abbrev S8x4096 : Shape := ⟨2, ![8, 4096]⟩
abbrev S_ : Shape := ⟨0, ![]⟩
abbrev S8x516x516 : Shape := ⟨3, ![8, 516, 516]⟩
abbrev S8x4096x1 : Shape := ⟨3, ![8, 4096, 1]⟩
abbrev S8x4096x2 : Shape := ⟨3, ![8, 4096, 2]⟩
abbrev S8x4096x5x5 : Shape := ⟨4, ![8, 4096, 5, 5]⟩
abbrev S8x4096x25 : Shape := ⟨3, ![8, 4096, 25]⟩
abbrev S8x4096x25x1 : Shape := ⟨4, ![8, 4096, 25, 1]⟩
abbrev S1x1x25x2 : Shape := ⟨4, ![1, 1, 25, 2]⟩
abbrev S8x4096x25x2 : Shape := ⟨4, ![8, 4096, 25, 2]⟩
abbrev S8x4096x1x2 : Shape := ⟨4, ![8, 4096, 1, 2]⟩
abbrev S1x1x2 : Shape := ⟨3, ![1, 1, 2]⟩

abbrev nBuf : Space → Nat
  | .hbm => 313
  | .vmem => 4
  | .smem => 0
  | _ => 0

abbrev hbmTy0_0 (i : Nat) : BufTy := match i % 128 with
  | 0 => ⟨S8x1x512x512, .f32⟩
  | 1 => ⟨S25x2, .f32⟩
  | 2 => ⟨S2, .f32⟩
  | 3 => ⟨S8x512x512, .f32⟩
  | 4 => ⟨S8x512x512, .f32⟩
  | 5 => ⟨S8x262144, .f32⟩
  | 6 => ⟨S8x4096, .f32⟩
  | 7 => ⟨S8x4096, .i32⟩
  | 8 => ⟨S_, .i32⟩
  | 9 => ⟨S_, .i32⟩
  | 10 => ⟨S8x4096, .i32⟩
  | 11 => ⟨S8x4096, .i32⟩
  | 12 => ⟨S8x4096, .i32⟩
  | 13 => ⟨S_, .i32⟩
  | 14 => ⟨S8x4096, .i32⟩
  | 15 => ⟨S8x4096, .i1⟩
  | 16 => ⟨S8x4096, .i32⟩
  | 17 => ⟨S8x4096, .i32⟩
  | 18 => ⟨S_, .i32⟩
  | 19 => ⟨S8x4096, .i32⟩
  | 20 => ⟨S8x4096, .i1⟩
  | 21 => ⟨S8x4096, .i1⟩
  | 22 => ⟨S_, .i32⟩
  | 23 => ⟨S8x4096, .i32⟩
  | 24 => ⟨S8x4096, .i32⟩
  | 25 => ⟨S8x4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S8x4096, .i32⟩
  | 33 => ⟨S8x4096, .i32⟩
  | 34 => ⟨S_, .i32⟩
  | 35 => ⟨S8x4096, .i32⟩
  | 36 => ⟨S8x4096, .i1⟩
  | 37 => ⟨S_, .i32⟩
  | 38 => ⟨S8x4096, .i32⟩
  | 39 => ⟨S8x4096, .i1⟩
  | 40 => ⟨S_, .i32⟩
  | 41 => ⟨S_, .i1⟩
  | 42 => ⟨S8x4096, .i1⟩
  | 43 => ⟨S8x4096, .i1⟩
  | 44 => ⟨S8x4096, .i1⟩
  | 45 => ⟨S8x4096, .i32⟩
  | 46 => ⟨S8x4096, .i32⟩
  | 47 => ⟨S8x4096, .i32⟩
  | 48 => ⟨S_, .i32⟩
  | 49 => ⟨S_, .f32⟩
  | 50 => ⟨S8x516x516, .f32⟩
  | 51 => ⟨S_, .i32⟩
  | 52 => ⟨S8x4096, .i32⟩
  | 53 => ⟨S8x4096, .i1⟩
  | 54 => ⟨S_, .i32⟩
  | 55 => ⟨S8x4096, .i32⟩
  | 56 => ⟨S8x4096, .i32⟩
  | 57 => ⟨S8x4096, .i32⟩
  | 58 => ⟨S_, .i32⟩
  | 59 => ⟨S8x4096, .i32⟩
  | 60 => ⟨S8x4096, .i1⟩
  | 61 => ⟨S_, .i32⟩
  | 62 => ⟨S8x4096, .i32⟩
  | 63 => ⟨S8x4096, .i32⟩
  | 64 => ⟨S8x4096, .i32⟩
  | 65 => ⟨S8x4096x1, .i32⟩
  | 66 => ⟨S8x4096x1, .i32⟩
  | 67 => ⟨S8x4096x2, .i32⟩
  | 68 => ⟨S8x4096x5x5, .f32⟩
  | 69 => ⟨S8x4096x25, .f32⟩
  | 70 => ⟨S_, .f32⟩
  | 71 => ⟨S8x4096, .f32⟩
  | 72 => ⟨S8x4096x1, .f32⟩
  | 73 => ⟨S8x4096x25, .f32⟩
  | 74 => ⟨S8x4096x25, .f32⟩
  | 75 => ⟨S_, .f32⟩
  | 76 => ⟨S8x4096x25, .f32⟩
  | 77 => ⟨S8x4096x25, .f32⟩
  | 78 => ⟨S8x4096x25, .f32⟩
  | 79 => ⟨S_, .f32⟩
  | 80 => ⟨S8x4096, .f32⟩
  | 81 => ⟨S8x4096x25x1, .f32⟩
  | 82 => ⟨S1x1x25x2, .f32⟩
  | 83 => ⟨S8x4096x25x2, .f32⟩
  | 84 => ⟨S8x4096x25x2, .f32⟩
  | 85 => ⟨S8x4096x25x2, .f32⟩
  | 86 => ⟨S_, .f32⟩
  | 87 => ⟨S8x4096x2, .f32⟩
  | 88 => ⟨S8x4096x1, .f32⟩
  | 89 => ⟨S8x4096x2, .f32⟩
  | 90 => ⟨S8x4096x2, .f32⟩
  | 91 => ⟨S1x1x25x2, .f32⟩
  | 92 => ⟨S8x4096x1x2, .f32⟩
  | 93 => ⟨S8x4096x25x2, .f32⟩
  | 94 => ⟨S8x4096x25x2, .f32⟩
  | 95 => ⟨S8x4096x25x2, .f32⟩
  | 96 => ⟨S_, .f32⟩
  | 97 => ⟨S8x4096x25x2, .f32⟩
  | 98 => ⟨S8x4096x25x2, .f32⟩
  | 99 => ⟨S8x4096x25x2, .f32⟩
  | 100 => ⟨S_, .f32⟩
  | 101 => ⟨S8x4096x25, .f32⟩
  | 102 => ⟨S8x4096x25, .f32⟩
  | 103 => ⟨S_, .f32⟩
  | 104 => ⟨S8x4096, .f32⟩
  | 105 => ⟨S8x4096, .f32⟩
  | 106 => ⟨S8x4096x1, .i32⟩
  | 107 => ⟨S8x4096x1, .i32⟩
  | 108 => ⟨S8x4096x2, .i32⟩
  | 109 => ⟨S8x4096x2, .f32⟩
  | 110 => ⟨S8x4096x2, .f32⟩
  | 111 => ⟨S1x1x2, .f32⟩
  | 112 => ⟨S8x4096x2, .f32⟩
  | 113 => ⟨S8x4096x2, .f32⟩
  | 114 => ⟨S_, .f32⟩
  | 115 => ⟨S8x4096x2, .f32⟩
  | 116 => ⟨S8x4096x2, .f32⟩
  | 117 => ⟨S_, .f32⟩
  | 118 => ⟨S8x4096x2, .f32⟩
  | 119 => ⟨S8x4096x2, .f32⟩
  | 120 => ⟨S8x4096x1, .f32⟩
  | 121 => ⟨S8x4096, .f32⟩
  | 122 => ⟨S_, .f32⟩
  | 123 => ⟨S8x4096, .f32⟩
  | 124 => ⟨S8x4096, .f32⟩
  | 125 => ⟨S_, .f32⟩
  | 126 => ⟨S8x4096, .f32⟩
  | 127 => ⟨S8x4096, .f32⟩
  | _ => ⟨S8x1x512x512, .f32⟩

abbrev hbmTy0_1 (i : Nat) : BufTy := match i % 128 with
  | 0 => ⟨S_, .f32⟩
  | 1 => ⟨S8x4096, .f32⟩
  | 2 => ⟨S8x4096, .f32⟩
  | 3 => ⟨S8x4096x1, .f32⟩
  | 4 => ⟨S8x4096, .f32⟩
  | 5 => ⟨S_, .f32⟩
  | 6 => ⟨S8x4096, .f32⟩
  | 7 => ⟨S8x4096, .f32⟩
  | 8 => ⟨S_, .f32⟩
  | 9 => ⟨S8x4096, .f32⟩
  | 10 => ⟨S8x4096, .f32⟩
  | 11 => ⟨S_, .f32⟩
  | 12 => ⟨S8x4096, .f32⟩
  | 13 => ⟨S8x4096, .f32⟩
  | 14 => ⟨S8x4096, .f32⟩
  | 15 => ⟨S8x4096, .f32⟩
  | 16 => ⟨S_, .f32⟩
  | 17 => ⟨S8x4096, .f32⟩
  | 18 => ⟨S8x4096, .f32⟩
  | 19 => ⟨S_, .f32⟩
  | 20 => ⟨S8x4096, .f32⟩
  | 21 => ⟨S8x4096, .f32⟩
  | 22 => ⟨S8x4096, .f32⟩
  | 23 => ⟨S8x4096, .f32⟩
  | 24 => ⟨S8x4096, .f32⟩
  | 25 => ⟨S8x4096, .f32⟩
  | 26 => ⟨S8x4096, .f32⟩
  | 27 => ⟨S8x4096, .f32⟩
  | 28 => ⟨S8x4096, .f32⟩
  | 29 => ⟨S8x4096, .f32⟩
  | 30 => ⟨S8x4096, .f32⟩
  | 31 => ⟨S8x4096, .f32⟩
  | 32 => ⟨S8x4096, .f32⟩
  | 33 => ⟨S8x4096, .f32⟩
  | 34 => ⟨S8x4096, .i32⟩
  | 35 => ⟨S_, .i32⟩
  | 36 => ⟨S_, .i32⟩
  | 37 => ⟨S_, .i32⟩
  | 38 => ⟨S8x4096, .i32⟩
  | 39 => ⟨S8x4096, .i32⟩
  | 40 => ⟨S_, .i32⟩
  | 41 => ⟨S8x4096, .i32⟩
  | 42 => ⟨S8x4096, .i32⟩
  | 43 => ⟨S8x4096, .i32⟩
  | 44 => ⟨S_, .i32⟩
  | 45 => ⟨S_, .i32⟩
  | 46 => ⟨S_, .i32⟩
  | 47 => ⟨S8x4096, .i32⟩
  | 48 => ⟨S8x4096, .i32⟩
  | 49 => ⟨S_, .i32⟩
  | 50 => ⟨S8x4096, .i32⟩
  | 51 => ⟨S8x4096, .i32⟩
  | 52 => ⟨S_, .i32⟩
  | 53 => ⟨S8x4096, .i32⟩
  | 54 => ⟨S8x4096, .i1⟩
  | 55 => ⟨S_, .i32⟩
  | 56 => ⟨S8x4096, .i32⟩
  | 57 => ⟨S8x4096, .i32⟩
  | 58 => ⟨S8x4096, .i32⟩
  | 59 => ⟨S_, .i32⟩
  | 60 => ⟨S8x4096, .i32⟩
  | 61 => ⟨S8x4096, .i1⟩
  | 62 => ⟨S_, .i32⟩
  | 63 => ⟨S8x4096, .i32⟩
  | 64 => ⟨S8x4096, .i32⟩
  | 65 => ⟨S8x4096, .i32⟩
  | 66 => ⟨S8x4096x1, .i32⟩
  | 67 => ⟨S8x4096x1, .i32⟩
  | 68 => ⟨S8x4096x2, .i32⟩
  | 69 => ⟨S8x4096, .f32⟩
  | 70 => ⟨S8x4096, .f32⟩
  | 71 => ⟨S8x4096, .i32⟩
  | 72 => ⟨S_, .i32⟩
  | 73 => ⟨S_, .i32⟩
  | 74 => ⟨S_, .i32⟩
  | 75 => ⟨S8x4096, .i32⟩
  | 76 => ⟨S8x4096, .i32⟩
  | 77 => ⟨S_, .i32⟩
  | 78 => ⟨S8x4096, .i32⟩
  | 79 => ⟨S8x4096, .i32⟩
  | 80 => ⟨S8x4096, .i32⟩
  | 81 => ⟨S_, .i32⟩
  | 82 => ⟨S_, .i32⟩
  | 83 => ⟨S_, .i32⟩
  | 84 => ⟨S8x4096, .i32⟩
  | 85 => ⟨S8x4096, .i32⟩
  | 86 => ⟨S_, .i32⟩
  | 87 => ⟨S8x4096, .i32⟩
  | 88 => ⟨S8x4096, .i32⟩
  | 89 => ⟨S_, .i32⟩
  | 90 => ⟨S8x4096, .i32⟩
  | 91 => ⟨S8x4096, .i1⟩
  | 92 => ⟨S_, .i32⟩
  | 93 => ⟨S8x4096, .i32⟩
  | 94 => ⟨S8x4096, .i32⟩
  | 95 => ⟨S8x4096, .i32⟩
  | 96 => ⟨S_, .i32⟩
  | 97 => ⟨S8x4096, .i32⟩
  | 98 => ⟨S8x4096, .i1⟩
  | 99 => ⟨S_, .i32⟩
  | 100 => ⟨S8x4096, .i32⟩
  | 101 => ⟨S8x4096, .i32⟩
  | 102 => ⟨S8x4096, .i32⟩
  | 103 => ⟨S8x4096x1, .i32⟩
  | 104 => ⟨S8x4096x1, .i32⟩
  | 105 => ⟨S8x4096x2, .i32⟩
  | 106 => ⟨S8x4096, .f32⟩
  | 107 => ⟨S8x4096, .f32⟩
  | 108 => ⟨S8x4096, .f32⟩
  | 109 => ⟨S8x4096, .i32⟩
  | 110 => ⟨S_, .i32⟩
  | 111 => ⟨S_, .i32⟩
  | 112 => ⟨S_, .i32⟩
  | 113 => ⟨S8x4096, .i32⟩
  | 114 => ⟨S8x4096, .i32⟩
  | 115 => ⟨S_, .i32⟩
  | 116 => ⟨S8x4096, .i32⟩
  | 117 => ⟨S8x4096, .i32⟩
  | 118 => ⟨S8x4096, .i32⟩
  | 119 => ⟨S_, .i32⟩
  | 120 => ⟨S_, .i32⟩
  | 121 => ⟨S_, .i32⟩
  | 122 => ⟨S8x4096, .i32⟩
  | 123 => ⟨S8x4096, .i32⟩
  | 124 => ⟨S_, .i32⟩
  | 125 => ⟨S8x4096, .i32⟩
  | 126 => ⟨S8x4096, .i32⟩
  | 127 => ⟨S_, .i32⟩
  | _ => ⟨S8x1x512x512, .f32⟩

abbrev hbmTy0_2 (i : Nat) : BufTy := match i % 128 with
  | 0 => ⟨S8x4096, .i32⟩
  | 1 => ⟨S8x4096, .i1⟩
  | 2 => ⟨S_, .i32⟩
  | 3 => ⟨S8x4096, .i32⟩
  | 4 => ⟨S8x4096, .i32⟩
  | 5 => ⟨S8x4096, .i32⟩
  | 6 => ⟨S_, .i32⟩
  | 7 => ⟨S8x4096, .i32⟩
  | 8 => ⟨S8x4096, .i1⟩
  | 9 => ⟨S_, .i32⟩
  | 10 => ⟨S8x4096, .i32⟩
  | 11 => ⟨S8x4096, .i32⟩
  | 12 => ⟨S8x4096, .i32⟩
  | 13 => ⟨S8x4096x1, .i32⟩
  | 14 => ⟨S8x4096x1, .i32⟩
  | 15 => ⟨S8x4096x2, .i32⟩
  | 16 => ⟨S8x4096, .f32⟩
  | 17 => ⟨S8x4096, .f32⟩
  | 18 => ⟨S8x4096, .f32⟩
  | 19 => ⟨S8x4096, .i32⟩
  | 20 => ⟨S_, .i32⟩
  | 21 => ⟨S_, .i32⟩
  | 22 => ⟨S_, .i32⟩
  | 23 => ⟨S8x4096, .i32⟩
  | 24 => ⟨S8x4096, .i32⟩
  | 25 => ⟨S_, .i32⟩
  | 26 => ⟨S8x4096, .i32⟩
  | 27 => ⟨S8x4096, .i32⟩
  | 28 => ⟨S8x4096, .i32⟩
  | 29 => ⟨S_, .i32⟩
  | 30 => ⟨S_, .i32⟩
  | 31 => ⟨S_, .i32⟩
  | 32 => ⟨S8x4096, .i32⟩
  | 33 => ⟨S8x4096, .i32⟩
  | 34 => ⟨S_, .i32⟩
  | 35 => ⟨S8x4096, .i32⟩
  | 36 => ⟨S8x4096, .i32⟩
  | 37 => ⟨S_, .i32⟩
  | 38 => ⟨S8x4096, .i32⟩
  | 39 => ⟨S8x4096, .i1⟩
  | 40 => ⟨S_, .i32⟩
  | 41 => ⟨S8x4096, .i32⟩
  | 42 => ⟨S8x4096, .i32⟩
  | 43 => ⟨S8x4096, .i32⟩
  | 44 => ⟨S_, .i32⟩
  | 45 => ⟨S8x4096, .i32⟩
  | 46 => ⟨S8x4096, .i1⟩
  | 47 => ⟨S_, .i32⟩
  | 48 => ⟨S8x4096, .i32⟩
  | 49 => ⟨S8x4096, .i32⟩
  | 50 => ⟨S8x4096, .i32⟩
  | 51 => ⟨S8x4096x1, .i32⟩
  | 52 => ⟨S8x4096x1, .i32⟩
  | 53 => ⟨S8x4096x2, .i32⟩
  | 54 => ⟨S8x4096, .f32⟩
  | 55 => ⟨S8x4096, .f32⟩
  | 56 => ⟨S8x4096, .f32⟩
  | _ => ⟨S8x1x512x512, .f32⟩

abbrev hbmTy (i : Nat) : BufTy := match i / 128 with
  | 0 => hbmTy0_0 i
  | 1 => hbmTy0_1 i
  | 2 => hbmTy0_2 i
  | _ => ⟨S8x1x512x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v4 : Ref sig .tc := ⟨.hbm, 47, rfl⟩
abbrev main_c_2 : Ref sig .tc := ⟨.hbm, 48, rfl⟩
abbrev main_call2_v0 : Ref sig .tc := ⟨.hbm, 49, rfl⟩
abbrev main_v5 : Ref sig .tc := ⟨.hbm, 50, rfl⟩
abbrev main_c_3 : Ref sig .tc := ⟨.hbm, 51, rfl⟩
abbrev main_v6 : Ref sig .tc := ⟨.hbm, 52, rfl⟩
abbrev main_v7 : Ref sig .tc := ⟨.hbm, 53, rfl⟩
abbrev main_c_4 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_c_5 : Ref sig .tc := ⟨.hbm, 58, rfl⟩
abbrev main_v11 : Ref sig .tc := ⟨.hbm, 59, rfl⟩
abbrev main_v12 : Ref sig .tc := ⟨.hbm, 60, rfl⟩
abbrev main_c_6 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_7 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_cst_8 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_9 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_10 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_11 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_12 : Ref sig .tc := ⟨.hbm, 100, rfl⟩
abbrev main_v46 : Ref sig .tc := ⟨.hbm, 101, rfl⟩
abbrev main_v47 : Ref sig .tc := ⟨.hbm, 102, rfl⟩
abbrev main_cst_13 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_14 : Ref sig .tc := ⟨.hbm, 114, rfl⟩
abbrev main_v58 : Ref sig .tc := ⟨.hbm, 115, rfl⟩
abbrev main_v59 : Ref sig .tc := ⟨.hbm, 116, rfl⟩
abbrev main_cst_15 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_16 : Ref sig .tc := ⟨.hbm, 122, rfl⟩
abbrev main_v64 : Ref sig .tc := ⟨.hbm, 123, rfl⟩
abbrev main_v65 : Ref sig .tc := ⟨.hbm, 124, rfl⟩
abbrev main_cst_17 : Ref sig .tc := ⟨.hbm, 125, rfl⟩
abbrev main_v66 : Ref sig .tc := ⟨.hbm, 126, rfl⟩
abbrev main_v67 : Ref sig .tc := ⟨.hbm, 127, rfl⟩
abbrev main_cst_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_19 : Ref sig .tc := ⟨.hbm, 133, rfl⟩
abbrev main_v72 : Ref sig .tc := ⟨.hbm, 134, rfl⟩
abbrev main_v73 : Ref sig .tc := ⟨.hbm, 135, rfl⟩
abbrev main_cst_20 : Ref sig .tc := ⟨.hbm, 136, rfl⟩
abbrev main_v74 : Ref sig .tc := ⟨.hbm, 137, rfl⟩
abbrev main_v75 : Ref sig .tc := ⟨.hbm, 138, rfl⟩
abbrev main_cst_21 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_22 : Ref sig .tc := ⟨.hbm, 144, rfl⟩
abbrev main_v80 : Ref sig .tc := ⟨.hbm, 145, rfl⟩
abbrev main_v81 : Ref sig .tc := ⟨.hbm, 146, rfl⟩
abbrev main_cst_23 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_c_24 : Ref sig .tc := ⟨.hbm, 163, rfl⟩
abbrev main_c_25 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_v97 : Ref sig .tc := ⟨.hbm, 170, rfl⟩
abbrev main_v98 : Ref sig .tc := ⟨.hbm, 171, rfl⟩
abbrev main_c_26 : Ref sig .tc := ⟨.hbm, 172, rfl⟩
abbrev main_c_27 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_v99 : Ref sig .tc := ⟨.hbm, 179, rfl⟩
abbrev main_c_28 : Ref sig .tc := ⟨.hbm, 180, rfl⟩
abbrev main_v100 : Ref sig .tc := ⟨.hbm, 181, rfl⟩
abbrev main_v101 : Ref sig .tc := ⟨.hbm, 182, rfl⟩
abbrev main_c_29 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_c_30 : Ref sig .tc := ⟨.hbm, 187, rfl⟩
abbrev main_v105 : Ref sig .tc := ⟨.hbm, 188, rfl⟩
abbrev main_v106 : Ref sig .tc := ⟨.hbm, 189, rfl⟩
abbrev main_c_31 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_c_32 : Ref sig .tc := ⟨.hbm, 200, rfl⟩
abbrev main_c_33 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_v116 : Ref sig .tc := ⟨.hbm, 207, rfl⟩
abbrev main_v117 : Ref sig .tc := ⟨.hbm, 208, rfl⟩
abbrev main_c_34 : Ref sig .tc := ⟨.hbm, 209, rfl⟩
abbrev main_c_35 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_v118 : Ref sig .tc := ⟨.hbm, 216, rfl⟩
abbrev main_c_36 : Ref sig .tc := ⟨.hbm, 217, rfl⟩
abbrev main_v119 : Ref sig .tc := ⟨.hbm, 218, rfl⟩
abbrev main_v120 : Ref sig .tc := ⟨.hbm, 219, rfl⟩
abbrev main_c_37 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_c_38 : Ref sig .tc := ⟨.hbm, 224, rfl⟩
abbrev main_v124 : Ref sig .tc := ⟨.hbm, 225, rfl⟩
abbrev main_v125 : Ref sig .tc := ⟨.hbm, 226, rfl⟩
abbrev main_c_39 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_c_40 : Ref sig .tc := ⟨.hbm, 238, rfl⟩
abbrev main_c_41 : Ref sig .tc := ⟨.hbm, 239, rfl⟩
abbrev main_call7_v0 : Ref sig .tc := ⟨.hbm, 240, rfl⟩
abbrev main_call7_v1 : Ref sig .tc := ⟨.hbm, 241, rfl⟩
abbrev main_call7_v2 : Ref sig .tc := ⟨.hbm, 242, rfl⟩
abbrev main_call7_v3 : Ref sig .tc := ⟨.hbm, 243, rfl⟩
abbrev main_call7_v4 : Ref sig .tc := ⟨.hbm, 244, rfl⟩
abbrev main_v136 : Ref sig .tc := ⟨.hbm, 245, rfl⟩
abbrev main_v137 : Ref sig .tc := ⟨.hbm, 246, rfl⟩
abbrev main_c_42 : Ref sig .tc := ⟨.hbm, 247, rfl⟩
abbrev main_c_43 : Ref sig .tc := ⟨.hbm, 248, rfl⟩
abbrev main_call8_v0 : Ref sig .tc := ⟨.hbm, 249, rfl⟩
abbrev main_call8_v1 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_v138 : Ref sig .tc := ⟨.hbm, 254, rfl⟩
abbrev main_c_44 : Ref sig .tc := ⟨.hbm, 255, rfl⟩
abbrev main_v139 : Ref sig .tc := ⟨.hbm, 256, rfl⟩
abbrev main_v140 : Ref sig .tc := ⟨.hbm, 257, rfl⟩
abbrev main_c_45 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_c_46 : Ref sig .tc := ⟨.hbm, 262, rfl⟩
abbrev main_v144 : Ref sig .tc := ⟨.hbm, 263, rfl⟩
abbrev main_v145 : Ref sig .tc := ⟨.hbm, 264, rfl⟩
abbrev main_c_47 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_c_48 : Ref sig .tc := ⟨.hbm, 276, rfl⟩
abbrev main_c_49 : Ref sig .tc := ⟨.hbm, 277, rfl⟩
abbrev main_call9_v0 : Ref sig .tc := ⟨.hbm, 278, rfl⟩
abbrev main_call9_v1 : Ref sig .tc := ⟨.hbm, 279, rfl⟩
abbrev main_call9_v2 : Ref sig .tc := ⟨.hbm, 280, rfl⟩
abbrev main_call9_v3 : Ref sig .tc := ⟨.hbm, 281, rfl⟩
abbrev main_call9_v4 : Ref sig .tc := ⟨.hbm, 282, rfl⟩
abbrev main_v156 : Ref sig .tc := ⟨.hbm, 283, rfl⟩
abbrev main_v157 : Ref sig .tc := ⟨.hbm, 284, rfl⟩
abbrev main_c_50 : Ref sig .tc := ⟨.hbm, 285, rfl⟩
abbrev main_c_51 : Ref sig .tc := ⟨.hbm, 286, rfl⟩
abbrev main_call10_v0 : Ref sig .tc := ⟨.hbm, 287, rfl⟩
abbrev main_call10_v1 : Ref sig .tc := ⟨.hbm, 288, rfl⟩
abbrev main_call10_v2 : Ref sig .tc := ⟨.hbm, 289, rfl⟩
abbrev main_call10_v3 : Ref sig .tc := ⟨.hbm, 290, rfl⟩
abbrev main_call10_v4 : Ref sig .tc := ⟨.hbm, 291, rfl⟩
abbrev main_v158 : Ref sig .tc := ⟨.hbm, 292, rfl⟩
abbrev main_c_52 : Ref sig .tc := ⟨.hbm, 293, rfl⟩
abbrev main_v159 : Ref sig .tc := ⟨.hbm, 294, rfl⟩
abbrev main_v160 : Ref sig .tc := ⟨.hbm, 295, rfl⟩
abbrev main_c_53 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_c_54 : Ref sig .tc := ⟨.hbm, 300, rfl⟩
abbrev main_v164 : Ref sig .tc := ⟨.hbm, 301, rfl⟩
abbrev main_v165 : Ref sig .tc := ⟨.hbm, 302, rfl⟩
abbrev main_c_55 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩
abbrev main_v171 : Ref sig .tc := ⟨.hbm, 309, rfl⟩
abbrev main_v172 : Ref sig .tc := ⟨.hbm, 310, rfl⟩
abbrev main_v173 : Ref sig .tc := ⟨.hbm, 311, rfl⟩
abbrev main_v174 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x1x512x512 : Shape := ⟨4, ![8, 1, 512, 512]⟩
abbrev S25x2 : Shape := ⟨2, ![25, 2]⟩
abbrev S2 : Shape := ⟨1, ![2]⟩
abbrev S_ : Shape := ⟨0, ![]⟩
abbrev S1 : Shape := ⟨1, ![1]⟩
abbrev S8x1x2x512 : Shape := ⟨4, ![8, 1, 2, 512]⟩
abbrev S8x1x512x2 : Shape := ⟨4, ![8, 1, 512, 2]⟩
abbrev S8x262144 : Shape := ⟨2, ![8, 262144]⟩
abbrev S8x4096 : Shape := ⟨2, ![8, 4096]⟩
abbrev S8x512x512 : Shape := ⟨3, ![8, 512, 512]⟩
abbrev S8x516x516 : Shape := ⟨3, ![8, 516, 516]⟩
abbrev S8x4096x1 : Shape := ⟨3, ![8, 4096, 1]⟩
abbrev S8x4096x2 : Shape := ⟨3, ![8, 4096, 2]⟩
abbrev S8x4096x5x5 : Shape := ⟨4, ![8, 4096, 5, 5]⟩
abbrev S8x4096x25 : Shape := ⟨3, ![8, 4096, 25]⟩
abbrev S8x4096x25x1 : Shape := ⟨4, ![8, 4096, 25, 1]⟩
abbrev S1x1x25x2 : Shape := ⟨4, ![1, 1, 25, 2]⟩
abbrev S8x4096x25x2 : Shape := ⟨4, ![8, 4096, 25, 2]⟩
abbrev S8x4096x1x2 : Shape := ⟨4, ![8, 4096, 1, 2]⟩
abbrev S1x1x2 : Shape := ⟨3, ![1, 1, 2]⟩

abbrev nBuf : Space → Nat
  | .hbm => 370
  | .vmem => 0
  | .smem => 0
  | _ => 0

abbrev hbmTy0_0 (i : Nat) : BufTy := match i % 128 with
  | 0 => ⟨S8x1x512x512, .f32⟩
  | 1 => ⟨S25x2, .f32⟩
  | 2 => ⟨S2, .f32⟩
  | 3 => ⟨S_, .f32⟩
  | 4 => ⟨S8x1x512x512, .f32⟩
  | 5 => ⟨S_, .f32⟩
  | 6 => ⟨S_, .f32⟩
  | 7 => ⟨S8x1x512x512, .f32⟩
  | 8 => ⟨S8x1x512x512, .i1⟩
  | 9 => ⟨S8x1x512x512, .f32⟩
  | 10 => ⟨S_, .f32⟩
  | 11 => ⟨S_, .f32⟩
  | 12 => ⟨S8x1x512x512, .f32⟩
  | 13 => ⟨S_, .f32⟩
  | 14 => ⟨S8x1x512x512, .f32⟩
  | 15 => ⟨S8x1x512x512, .i1⟩
  | 16 => ⟨S8x1x512x512, .f32⟩
  | 17 => ⟨S_, .f32⟩
  | 18 => ⟨S_, .f32⟩
  | 19 => ⟨S8x1x512x512, .f32⟩
  | 20 => ⟨S8x1x512x512, .i1⟩
  | 21 => ⟨S8x1x512x512, .i1⟩
  | 22 => ⟨S8x1x512x512, .i1⟩
  | 23 => ⟨S8x1x512x512, .i1⟩
  | 24 => ⟨S8x1x512x512, .f32⟩
  | 25 => ⟨S_, .f32⟩
  | 26 => ⟨S_, .f32⟩
  | 27 => ⟨S8x1x512x512, .f32⟩
  | 28 => ⟨S_, .f32⟩
  | 29 => ⟨S8x1x512x512, .f32⟩
  | 30 => ⟨S8x1x512x512, .i1⟩
  | 31 => ⟨S8x1x512x512, .f32⟩
  | 32 => ⟨S_, .f32⟩
  | 33 => ⟨S_, .f32⟩
  | 34 => ⟨S8x1x512x512, .f32⟩
  | 35 => ⟨S8x1x512x512, .i1⟩
  | 36 => ⟨S8x1x512x512, .i1⟩
  | 37 => ⟨S8x1x512x512, .i1⟩
  | 38 => ⟨S8x1x512x512, .i1⟩
  | 39 => ⟨S8x1x512x512, .f32⟩
  | 40 => ⟨S_, .i32⟩
  | 41 => ⟨S1, .i32⟩
  | 42 => ⟨S_, .f32⟩
  | 43 => ⟨S8x1x2x512, .f32⟩
  | 44 => ⟨S8x1x512x512, .f32⟩
  | 45 => ⟨S_, .i32⟩
  | 46 => ⟨S1, .i32⟩
  | 47 => ⟨S_, .f32⟩
  | 48 => ⟨S8x1x512x2, .f32⟩
  | 49 => ⟨S8x1x512x512, .f32⟩
  | 50 => ⟨S_, .i32⟩
  | 51 => ⟨S1, .i32⟩
  | 52 => ⟨S_, .f32⟩
  | 53 => ⟨S8x1x2x512, .f32⟩
  | 54 => ⟨S8x1x512x512, .f32⟩
  | 55 => ⟨S_, .i32⟩
  | 56 => ⟨S1, .i32⟩
  | 57 => ⟨S_, .f32⟩
  | 58 => ⟨S8x1x512x2, .f32⟩
  | 59 => ⟨S8x1x512x512, .f32⟩
  | 60 => ⟨S8x262144, .f32⟩
  | 61 => ⟨S8x4096, .f32⟩
  | 62 => ⟨S8x4096, .i32⟩
  | 63 => ⟨S_, .i32⟩
  | 64 => ⟨S_, .i32⟩
  | 65 => ⟨S8x4096, .i32⟩
  | 66 => ⟨S8x4096, .i32⟩
  | 67 => ⟨S8x4096, .i32⟩
  | 68 => ⟨S_, .i32⟩
  | 69 => ⟨S8x4096, .i32⟩
  | 70 => ⟨S8x4096, .i1⟩
  | 71 => ⟨S8x4096, .i32⟩
  | 72 => ⟨S8x4096, .i32⟩
  | 73 => ⟨S_, .i32⟩
  | 74 => ⟨S8x4096, .i32⟩
  | 75 => ⟨S8x4096, .i1⟩
  | 76 => ⟨S8x4096, .i1⟩
  | 77 => ⟨S_, .i32⟩
  | 78 => ⟨S8x4096, .i32⟩
  | 79 => ⟨S8x4096, .i32⟩
  | 80 => ⟨S8x4096, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S8x4096, .i32⟩
  | 88 => ⟨S8x4096, .i32⟩
  | 89 => ⟨S_, .i32⟩
  | 90 => ⟨S8x4096, .i32⟩
  | 91 => ⟨S8x4096, .i1⟩
  | 92 => ⟨S_, .i32⟩
  | 93 => ⟨S8x4096, .i32⟩
  | 94 => ⟨S8x4096, .i1⟩
  | 95 => ⟨S_, .i32⟩
  | 96 => ⟨S_, .i1⟩
  | 97 => ⟨S8x4096, .i1⟩
  | 98 => ⟨S8x4096, .i1⟩
  | 99 => ⟨S8x4096, .i1⟩
  | 100 => ⟨S8x4096, .i32⟩
  | 101 => ⟨S8x4096, .i32⟩
  | 102 => ⟨S8x4096, .i32⟩
  | 103 => ⟨S8x512x512, .f32⟩
  | 104 => ⟨S_, .i32⟩
  | 105 => ⟨S_, .f32⟩
  | 106 => ⟨S8x516x516, .f32⟩
  | 107 => ⟨S_, .i32⟩
  | 108 => ⟨S8x4096, .i32⟩
  | 109 => ⟨S8x4096, .i1⟩
  | 110 => ⟨S_, .i32⟩
  | 111 => ⟨S8x4096, .i32⟩
  | 112 => ⟨S8x4096, .i32⟩
  | 113 => ⟨S8x4096, .i32⟩
  | 114 => ⟨S_, .i32⟩
  | 115 => ⟨S8x4096, .i32⟩
  | 116 => ⟨S8x4096, .i1⟩
  | 117 => ⟨S_, .i32⟩
  | 118 => ⟨S8x4096, .i32⟩
  | 119 => ⟨S8x4096, .i32⟩
  | 120 => ⟨S8x4096, .i32⟩
  | 121 => ⟨S8x4096x1, .i32⟩
  | 122 => ⟨S8x4096x1, .i32⟩
  | 123 => ⟨S8x4096x2, .i32⟩
  | 124 => ⟨S8x4096x5x5, .f32⟩
  | 125 => ⟨S8x4096x25, .f32⟩
  | 126 => ⟨S_, .f32⟩
  | 127 => ⟨S8x4096, .f32⟩
  | _ => ⟨S8x1x512x512, .f32⟩

abbrev hbmTy0_1 (i : Nat) : BufTy := match i % 128 with
  | 0 => ⟨S8x4096x1, .f32⟩
  | 1 => ⟨S8x4096x25, .f32⟩
  | 2 => ⟨S8x4096x25, .f32⟩
  | 3 => ⟨S_, .f32⟩
  | 4 => ⟨S8x4096x25, .f32⟩
  | 5 => ⟨S8x4096x25, .f32⟩
  | 6 => ⟨S8x4096x25, .f32⟩
  | 7 => ⟨S_, .f32⟩
  | 8 => ⟨S8x4096, .f32⟩
  | 9 => ⟨S8x4096x25x1, .f32⟩
  | 10 => ⟨S1x1x25x2, .f32⟩
  | 11 => ⟨S8x4096x25x2, .f32⟩
  | 12 => ⟨S8x4096x25x2, .f32⟩
  | 13 => ⟨S8x4096x25x2, .f32⟩
  | 14 => ⟨S_, .f32⟩
  | 15 => ⟨S8x4096x2, .f32⟩
  | 16 => ⟨S8x4096x1, .f32⟩
  | 17 => ⟨S8x4096x2, .f32⟩
  | 18 => ⟨S8x4096x2, .f32⟩
  | 19 => ⟨S1x1x25x2, .f32⟩
  | 20 => ⟨S8x4096x1x2, .f32⟩
  | 21 => ⟨S8x4096x25x2, .f32⟩
  | 22 => ⟨S8x4096x25x2, .f32⟩
  | 23 => ⟨S8x4096x25x2, .f32⟩
  | 24 => ⟨S_, .f32⟩
  | 25 => ⟨S8x4096x25x2, .f32⟩
  | 26 => ⟨S8x4096x25x2, .f32⟩
  | 27 => ⟨S8x4096x25x2, .f32⟩
  | 28 => ⟨S_, .f32⟩
  | 29 => ⟨S8x4096x25, .f32⟩
  | 30 => ⟨S8x4096x25, .f32⟩
  | 31 => ⟨S_, .f32⟩
  | 32 => ⟨S8x4096, .f32⟩
  | 33 => ⟨S8x4096, .f32⟩
  | 34 => ⟨S8x4096x1, .i32⟩
  | 35 => ⟨S8x4096x1, .i32⟩
  | 36 => ⟨S8x4096x2, .i32⟩
  | 37 => ⟨S8x4096x2, .f32⟩
  | 38 => ⟨S8x4096x2, .f32⟩
  | 39 => ⟨S1x1x2, .f32⟩
  | 40 => ⟨S8x4096x2, .f32⟩
  | 41 => ⟨S8x4096x2, .f32⟩
  | 42 => ⟨S_, .f32⟩
  | 43 => ⟨S8x4096x2, .f32⟩
  | 44 => ⟨S8x4096x2, .f32⟩
  | 45 => ⟨S_, .f32⟩
  | 46 => ⟨S8x4096x2, .f32⟩
  | 47 => ⟨S8x4096x2, .f32⟩
  | 48 => ⟨S8x4096x1, .f32⟩
  | 49 => ⟨S8x4096, .f32⟩
  | 50 => ⟨S_, .f32⟩
  | 51 => ⟨S8x4096, .f32⟩
  | 52 => ⟨S8x4096, .f32⟩
  | 53 => ⟨S_, .f32⟩
  | 54 => ⟨S8x4096, .f32⟩
  | 55 => ⟨S8x4096, .f32⟩
  | 56 => ⟨S_, .f32⟩
  | 57 => ⟨S8x4096, .f32⟩
  | 58 => ⟨S8x4096, .f32⟩
  | 59 => ⟨S8x4096x1, .f32⟩
  | 60 => ⟨S8x4096, .f32⟩
  | 61 => ⟨S_, .f32⟩
  | 62 => ⟨S8x4096, .f32⟩
  | 63 => ⟨S8x4096, .f32⟩
  | 64 => ⟨S_, .f32⟩
  | 65 => ⟨S8x4096, .f32⟩
  | 66 => ⟨S8x4096, .f32⟩
  | 67 => ⟨S_, .f32⟩
  | 68 => ⟨S8x4096, .f32⟩
  | 69 => ⟨S8x4096, .f32⟩
  | 70 => ⟨S8x512x512, .f32⟩
  | 71 => ⟨S8x4096, .f32⟩
  | 72 => ⟨S8x4096, .f32⟩
  | 73 => ⟨S_, .f32⟩
  | 74 => ⟨S8x4096, .f32⟩
  | 75 => ⟨S8x4096, .f32⟩
  | 76 => ⟨S_, .f32⟩
  | 77 => ⟨S8x4096, .f32⟩
  | 78 => ⟨S8x4096, .f32⟩
  | 79 => ⟨S8x4096, .f32⟩
  | 80 => ⟨S8x4096, .f32⟩
  | 81 => ⟨S8x4096, .f32⟩
  | 82 => ⟨S8x4096, .f32⟩
  | 83 => ⟨S8x4096, .f32⟩
  | 84 => ⟨S8x4096, .f32⟩
  | 85 => ⟨S8x4096, .f32⟩
  | 86 => ⟨S8x4096, .f32⟩
  | 87 => ⟨S8x4096, .f32⟩
  | 88 => ⟨S8x4096, .f32⟩
  | 89 => ⟨S8x4096, .f32⟩
  | 90 => ⟨S8x4096, .f32⟩
  | 91 => ⟨S8x4096, .i32⟩
  | 92 => ⟨S_, .i32⟩
  | 93 => ⟨S_, .i32⟩
  | 94 => ⟨S_, .i32⟩
  | 95 => ⟨S8x4096, .i32⟩
  | 96 => ⟨S8x4096, .i32⟩
  | 97 => ⟨S_, .i32⟩
  | 98 => ⟨S8x4096, .i32⟩
  | 99 => ⟨S8x4096, .i32⟩
  | 100 => ⟨S8x4096, .i32⟩
  | 101 => ⟨S_, .i32⟩
  | 102 => ⟨S_, .i32⟩
  | 103 => ⟨S_, .i32⟩
  | 104 => ⟨S8x4096, .i32⟩
  | 105 => ⟨S8x4096, .i32⟩
  | 106 => ⟨S_, .i32⟩
  | 107 => ⟨S8x4096, .i32⟩
  | 108 => ⟨S8x4096, .i32⟩
  | 109 => ⟨S_, .i32⟩
  | 110 => ⟨S8x4096, .i32⟩
  | 111 => ⟨S8x4096, .i1⟩
  | 112 => ⟨S_, .i32⟩
  | 113 => ⟨S8x4096, .i32⟩
  | 114 => ⟨S8x4096, .i32⟩
  | 115 => ⟨S8x4096, .i32⟩
  | 116 => ⟨S_, .i32⟩
  | 117 => ⟨S8x4096, .i32⟩
  | 118 => ⟨S8x4096, .i1⟩
  | 119 => ⟨S_, .i32⟩
  | 120 => ⟨S8x4096, .i32⟩
  | 121 => ⟨S8x4096, .i32⟩
  | 122 => ⟨S8x4096, .i32⟩
  | 123 => ⟨S8x4096x1, .i32⟩
  | 124 => ⟨S8x4096x1, .i32⟩
  | 125 => ⟨S8x4096x2, .i32⟩
  | 126 => ⟨S8x4096, .f32⟩
  | 127 => ⟨S8x4096, .f32⟩
  | _ => ⟨S8x1x512x512, .f32⟩

abbrev hbmTy0_2 (i : Nat) : BufTy := match i % 128 with
  | 0 => ⟨S8x4096, .i32⟩
  | 1 => ⟨S_, .i32⟩
  | 2 => ⟨S_, .i32⟩
  | 3 => ⟨S_, .i32⟩
  | 4 => ⟨S8x4096, .i32⟩
  | 5 => ⟨S8x4096, .i32⟩
  | 6 => ⟨S_, .i32⟩
  | 7 => ⟨S8x4096, .i32⟩
  | 8 => ⟨S8x4096, .i32⟩
  | 9 => ⟨S8x4096, .i32⟩
  | 10 => ⟨S_, .i32⟩
  | 11 => ⟨S_, .i32⟩
  | 12 => ⟨S_, .i32⟩
  | 13 => ⟨S8x4096, .i32⟩
  | 14 => ⟨S8x4096, .i32⟩
  | 15 => ⟨S_, .i32⟩
  | 16 => ⟨S8x4096, .i32⟩
  | 17 => ⟨S8x4096, .i32⟩
  | 18 => ⟨S_, .i32⟩
  | 19 => ⟨S8x4096, .i32⟩
  | 20 => ⟨S8x4096, .i1⟩
  | 21 => ⟨S_, .i32⟩
  | 22 => ⟨S8x4096, .i32⟩
  | 23 => ⟨S8x4096, .i32⟩
  | 24 => ⟨S8x4096, .i32⟩
  | 25 => ⟨S_, .i32⟩
  | 26 => ⟨S8x4096, .i32⟩
  | 27 => ⟨S8x4096, .i1⟩
  | 28 => ⟨S_, .i32⟩
  | 29 => ⟨S8x4096, .i32⟩
  | 30 => ⟨S8x4096, .i32⟩
  | 31 => ⟨S8x4096, .i32⟩
  | 32 => ⟨S8x4096x1, .i32⟩
  | 33 => ⟨S8x4096x1, .i32⟩
  | 34 => ⟨S8x4096x2, .i32⟩
  | 35 => ⟨S8x4096, .f32⟩
  | 36 => ⟨S8x4096, .f32⟩
  | 37 => ⟨S8x4096, .f32⟩
  | 38 => ⟨S8x4096, .i32⟩
  | 39 => ⟨S_, .i32⟩
  | 40 => ⟨S_, .i32⟩
  | 41 => ⟨S_, .i32⟩
  | 42 => ⟨S8x4096, .i32⟩
  | 43 => ⟨S8x4096, .i32⟩
  | 44 => ⟨S_, .i32⟩
  | 45 => ⟨S8x4096, .i32⟩
  | 46 => ⟨S8x4096, .i32⟩
  | 47 => ⟨S8x4096, .i32⟩
  | 48 => ⟨S_, .i32⟩
  | 49 => ⟨S_, .i32⟩
  | 50 => ⟨S_, .i32⟩
  | 51 => ⟨S8x4096, .i32⟩
  | 52 => ⟨S8x4096, .i32⟩
  | 53 => ⟨S_, .i32⟩
  | 54 => ⟨S8x4096, .i32⟩
  | 55 => ⟨S8x4096, .i32⟩
  | 56 => ⟨S_, .i32⟩
  | 57 => ⟨S8x4096, .i32⟩
  | 58 => ⟨S8x4096, .i1⟩
  | 59 => ⟨S_, .i32⟩
  | 60 => ⟨S8x4096, .i32⟩
  | 61 => ⟨S8x4096, .i32⟩
  | 62 => ⟨S8x4096, .i32⟩
  | 63 => ⟨S_, .i32⟩
  | 64 => ⟨S8x4096, .i32⟩
  | 65 => ⟨S8x4096, .i1⟩
  | 66 => ⟨S_, .i32⟩
  | 67 => ⟨S8x4096, .i32⟩
  | 68 => ⟨S8x4096, .i32⟩
  | 69 => ⟨S8x4096, .i32⟩
  | 70 => ⟨S8x4096x1, .i32⟩
  | 71 => ⟨S8x4096x1, .i32⟩
  | 72 => ⟨S8x4096x2, .i32⟩
  | 73 => ⟨S8x4096, .f32⟩
  | 74 => ⟨S8x4096, .f32⟩
  | 75 => ⟨S8x4096, .f32⟩
  | 76 => ⟨S8x4096, .i32⟩
  | 77 => ⟨S_, .i32⟩
  | 78 => ⟨S_, .i32⟩
  | 79 => ⟨S_, .i32⟩
  | 80 => ⟨S8x4096, .i32⟩
  | 81 => ⟨S8x4096, .i32⟩
  | 82 => ⟨S_, .i32⟩
  | 83 => ⟨S8x4096, .i32⟩
  | 84 => ⟨S8x4096, .i32⟩
  | 85 => ⟨S8x4096, .i32⟩
  | 86 => ⟨S_, .i32⟩
  | 87 => ⟨S_, .i32⟩
  | 88 => ⟨S_, .i32⟩
  | 89 => ⟨S8x4096, .i32⟩
  | 90 => ⟨S8x4096, .i32⟩
  | 91 => ⟨S_, .i32⟩
  | 92 => ⟨S8x4096, .i32⟩
  | 93 => ⟨S8x4096, .i32⟩
  | 94 => ⟨S_, .i32⟩
  | 95 => ⟨S8x4096, .i32⟩
  | 96 => ⟨S8x4096, .i1⟩
  | 97 => ⟨S_, .i32⟩
  | 98 => ⟨S8x4096, .i32⟩
  | 99 => ⟨S8x4096, .i32⟩
  | 100 => ⟨S8x4096, .i32⟩
  | 101 => ⟨S_, .i32⟩
  | 102 => ⟨S8x4096, .i32⟩
  | 103 => ⟨S8x4096, .i1⟩
  | 104 => ⟨S_, .i32⟩
  | 105 => ⟨S8x4096, .i32⟩
  | 106 => ⟨S8x4096, .i32⟩
  | 107 => ⟨S8x4096, .i32⟩
  | 108 => ⟨S8x4096x1, .i32⟩
  | 109 => ⟨S8x4096x1, .i32⟩
  | 110 => ⟨S8x4096x2, .i32⟩
  | 111 => ⟨S8x4096, .f32⟩
  | 112 => ⟨S8x4096, .f32⟩
  | 113 => ⟨S8x4096, .f32⟩
  | _ => ⟨S8x1x512x512, .f32⟩

abbrev hbmTy (i : Nat) : BufTy := match i / 128 with
  | 0 => hbmTy0_0 i
  | 1 => hbmTy0_1 i
  | 2 => hbmTy0_2 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_5 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_c_10 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_c_12 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_v37 : Ref sig .tc := ⟨.hbm, 54, rfl⟩
abbrev main_c_14 : Ref sig .tc := ⟨.hbm, 55, rfl⟩
abbrev main_v38 : Ref sig .tc := ⟨.hbm, 56, rfl⟩
abbrev main_cst_15 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_values : Ref sig .tc := ⟨.hbm, 61, rfl⟩
abbrev main_indices : Ref sig .tc := ⟨.hbm, 62, rfl⟩
abbrev main_c_16 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v42 : Ref sig .tc := ⟨.hbm, 80, rfl⟩
abbrev main_c_17 : Ref sig .tc := ⟨.hbm, 81, rfl⟩
abbrev main_call4_v0 : Ref sig .tc := ⟨.hbm, 82, rfl⟩
abbrev main_call4_c : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_1 : Ref sig .tc := ⟨.hbm, 89, rfl⟩
abbrev main_call4_v5 : Ref sig .tc := ⟨.hbm, 90, rfl⟩
abbrev main_call4_v6 : Ref sig .tc := ⟨.hbm, 91, rfl⟩
abbrev main_call4_c_2 : Ref sig .tc := ⟨.hbm, 92, rfl⟩
abbrev main_call4_v7 : Ref sig .tc := ⟨.hbm, 93, rfl⟩
abbrev main_call4_v8 : Ref sig .tc := ⟨.hbm, 94, rfl⟩
abbrev main_call4_c_3 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_v12 : Ref sig .tc := ⟨.hbm, 99, rfl⟩
abbrev main_call4_v13 : Ref sig .tc := ⟨.hbm, 100, rfl⟩
abbrev main_call4_v14 : Ref sig .tc := ⟨.hbm, 101, rfl⟩
abbrev main_v43 : Ref sig .tc := ⟨.hbm, 102, rfl⟩
abbrev main_v44 : Ref sig .tc := ⟨.hbm, 103, rfl⟩
abbrev main_c_18 : Ref sig .tc := ⟨.hbm, 104, rfl⟩
abbrev main_call5_v0 : Ref sig .tc := ⟨.hbm, 105, rfl⟩
abbrev main_v45 : Ref sig .tc := ⟨.hbm, 106, rfl⟩
abbrev main_c_19 : Ref sig .tc := ⟨.hbm, 107, rfl⟩
abbrev main_v46 : Ref sig .tc := ⟨.hbm, 108, rfl⟩
abbrev main_v47 : Ref sig .tc := ⟨.hbm, 109, rfl⟩
abbrev main_c_20 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_c_21 : Ref sig .tc := ⟨.hbm, 114, rfl⟩
abbrev main_v51 : Ref sig .tc := ⟨.hbm, 115, rfl⟩
abbrev main_v52 : Ref sig .tc := ⟨.hbm, 116, rfl⟩
abbrev main_c_22 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_23 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_24 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_cst_25 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_26 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_27 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_28 : Ref sig .tc := ⟨.hbm, 156, rfl⟩
abbrev main_v86 : Ref sig .tc := ⟨.hbm, 157, rfl⟩
abbrev main_v87 : Ref sig .tc := ⟨.hbm, 158, rfl⟩
abbrev main_cst_29 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_30 : Ref sig .tc := ⟨.hbm, 170, rfl⟩
abbrev main_v98 : Ref sig .tc := ⟨.hbm, 171, rfl⟩
abbrev main_v99 : Ref sig .tc := ⟨.hbm, 172, rfl⟩
abbrev main_cst_31 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_32 : Ref sig .tc := ⟨.hbm, 178, rfl⟩
abbrev main_v104 : Ref sig .tc := ⟨.hbm, 179, rfl⟩
abbrev main_v105 : Ref sig .tc := ⟨.hbm, 180, rfl⟩
abbrev main_cst_33 : Ref sig .tc := ⟨.hbm, 181, rfl⟩
abbrev main_v106 : Ref sig .tc := ⟨.hbm, 182, rfl⟩
abbrev main_v107 : Ref sig .tc := ⟨.hbm, 183, rfl⟩
abbrev main_cst_34 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_cst_35 : Ref sig .tc := ⟨.hbm, 189, rfl⟩
abbrev main_v112 : Ref sig .tc := ⟨.hbm, 190, rfl⟩
abbrev main_v113 : Ref sig .tc := ⟨.hbm, 191, rfl⟩
abbrev main_cst_36 : Ref sig .tc := ⟨.hbm, 192, rfl⟩
abbrev main_v114 : Ref sig .tc := ⟨.hbm, 193, rfl⟩
abbrev main_v115 : Ref sig .tc := ⟨.hbm, 194, rfl⟩
abbrev main_cst_37 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_38 : Ref sig .tc := ⟨.hbm, 201, rfl⟩
abbrev main_v121 : Ref sig .tc := ⟨.hbm, 202, rfl⟩
abbrev main_v122 : Ref sig .tc := ⟨.hbm, 203, rfl⟩
abbrev main_cst_39 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_c_40 : Ref sig .tc := ⟨.hbm, 220, rfl⟩
abbrev main_c_41 : Ref sig .tc := ⟨.hbm, 221, rfl⟩
abbrev main_call6_v0 : Ref sig .tc := ⟨.hbm, 222, rfl⟩
abbrev main_call6_v1 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_v138 : Ref sig .tc := ⟨.hbm, 227, rfl⟩
abbrev main_v139 : Ref sig .tc := ⟨.hbm, 228, rfl⟩
abbrev main_c_42 : Ref sig .tc := ⟨.hbm, 229, rfl⟩
abbrev main_c_43 : Ref sig .tc := ⟨.hbm, 230, rfl⟩
abbrev main_call7_v0 : Ref sig .tc := ⟨.hbm, 231, rfl⟩
abbrev main_call7_v1 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_v140 : Ref sig .tc := ⟨.hbm, 236, rfl⟩
abbrev main_c_44 : Ref sig .tc := ⟨.hbm, 237, rfl⟩
abbrev main_v141 : Ref sig .tc := ⟨.hbm, 238, rfl⟩
abbrev main_v142 : Ref sig .tc := ⟨.hbm, 239, rfl⟩
abbrev main_c_45 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_c_46 : Ref sig .tc := ⟨.hbm, 244, rfl⟩
abbrev main_v146 : Ref sig .tc := ⟨.hbm, 245, rfl⟩
abbrev main_v147 : Ref sig .tc := ⟨.hbm, 246, rfl⟩
abbrev main_c_47 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_c_48 : Ref sig .tc := ⟨.hbm, 257, rfl⟩
abbrev main_c_49 : Ref sig .tc := ⟨.hbm, 258, rfl⟩
abbrev main_call8_v0 : Ref sig .tc := ⟨.hbm, 259, rfl⟩
abbrev main_call8_v1 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_v157 : Ref sig .tc := ⟨.hbm, 264, rfl⟩
abbrev main_v158 : Ref sig .tc := ⟨.hbm, 265, rfl⟩
abbrev main_c_50 : Ref sig .tc := ⟨.hbm, 266, rfl⟩
abbrev main_c_51 : Ref sig .tc := ⟨.hbm, 267, rfl⟩
abbrev main_call9_v0 : Ref sig .tc := ⟨.hbm, 268, rfl⟩
abbrev main_call9_v1 : Ref sig .tc := ⟨.hbm, 269, rfl⟩
abbrev main_call9_v2 : Ref sig .tc := ⟨.hbm, 270, rfl⟩
abbrev main_call9_v3 : Ref sig .tc := ⟨.hbm, 271, rfl⟩
abbrev main_call9_v4 : Ref sig .tc := ⟨.hbm, 272, rfl⟩
abbrev main_v159 : Ref sig .tc := ⟨.hbm, 273, rfl⟩
abbrev main_c_52 : Ref sig .tc := ⟨.hbm, 274, rfl⟩
abbrev main_v160 : Ref sig .tc := ⟨.hbm, 275, rfl⟩
abbrev main_v161 : Ref sig .tc := ⟨.hbm, 276, rfl⟩
abbrev main_c_53 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_c_54 : Ref sig .tc := ⟨.hbm, 281, rfl⟩
abbrev main_v165 : Ref sig .tc := ⟨.hbm, 282, rfl⟩
abbrev main_v166 : Ref sig .tc := ⟨.hbm, 283, rfl⟩
abbrev main_c_55 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_c_56 : Ref sig .tc := ⟨.hbm, 295, rfl⟩
abbrev main_c_57 : Ref sig .tc := ⟨.hbm, 296, rfl⟩
abbrev main_call10_v0 : Ref sig .tc := ⟨.hbm, 297, rfl⟩
abbrev main_call10_v1 : Ref sig .tc := ⟨.hbm, 298, rfl⟩
abbrev main_call10_v2 : Ref sig .tc := ⟨.hbm, 299, rfl⟩
abbrev main_call10_v3 : Ref sig .tc := ⟨.hbm, 300, rfl⟩
abbrev main_call10_v4 : Ref sig .tc := ⟨.hbm, 301, rfl⟩
abbrev main_v177 : Ref sig .tc := ⟨.hbm, 302, rfl⟩
abbrev main_v178 : Ref sig .tc := ⟨.hbm, 303, rfl⟩
abbrev main_c_58 : Ref sig .tc := ⟨.hbm, 304, rfl⟩
abbrev main_c_59 : Ref sig .tc := ⟨.hbm, 305, rfl⟩
abbrev main_call11_v0 : Ref sig .tc := ⟨.hbm, 306, rfl⟩
abbrev main_call11_v1 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_v179 : Ref sig .tc := ⟨.hbm, 311, rfl⟩
abbrev main_c_60 : Ref sig .tc := ⟨.hbm, 312, rfl⟩
abbrev main_v180 : Ref sig .tc := ⟨.hbm, 313, rfl⟩
abbrev main_v181 : Ref sig .tc := ⟨.hbm, 314, rfl⟩
abbrev main_c_61 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_c_62 : Ref sig .tc := ⟨.hbm, 319, rfl⟩
abbrev main_v185 : Ref sig .tc := ⟨.hbm, 320, rfl⟩
abbrev main_v186 : Ref sig .tc := ⟨.hbm, 321, rfl⟩
abbrev main_c_63 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_c_64 : Ref sig .tc := ⟨.hbm, 333, rfl⟩
abbrev main_c_65 : Ref sig .tc := ⟨.hbm, 334, rfl⟩
abbrev main_call12_v0 : Ref sig .tc := ⟨.hbm, 335, rfl⟩
abbrev main_call12_v1 : Ref sig .tc := ⟨.hbm, 336, rfl⟩
abbrev main_call12_v2 : Ref sig .tc := ⟨.hbm, 337, rfl⟩
abbrev main_call12_v3 : Ref sig .tc := ⟨.hbm, 338, rfl⟩
abbrev main_call12_v4 : Ref sig .tc := ⟨.hbm, 339, rfl⟩
abbrev main_v197 : Ref sig .tc := ⟨.hbm, 340, rfl⟩
abbrev main_v198 : Ref sig .tc := ⟨.hbm, 341, rfl⟩
abbrev main_c_66 : Ref sig .tc := ⟨.hbm, 342, rfl⟩
abbrev main_c_67 : Ref sig .tc := ⟨.hbm, 343, rfl⟩
abbrev main_call13_v0 : Ref sig .tc := ⟨.hbm, 344, rfl⟩
abbrev main_call13_v1 : Ref sig .tc := ⟨.hbm, 345, rfl⟩
abbrev main_call13_v2 : Ref sig .tc := ⟨.hbm, 346, rfl⟩
abbrev main_call13_v3 : Ref sig .tc := ⟨.hbm, 347, rfl⟩
abbrev main_call13_v4 : Ref sig .tc := ⟨.hbm, 348, rfl⟩
abbrev main_v199 : Ref sig .tc := ⟨.hbm, 349, rfl⟩
abbrev main_c_68 : Ref sig .tc := ⟨.hbm, 350, rfl⟩
abbrev main_v200 : Ref sig .tc := ⟨.hbm, 351, rfl⟩
abbrev main_v201 : Ref sig .tc := ⟨.hbm, 352, rfl⟩
abbrev main_c_69 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_c_70 : Ref sig .tc := ⟨.hbm, 357, rfl⟩
abbrev main_v205 : Ref sig .tc := ⟨.hbm, 358, rfl⟩
abbrev main_v206 : Ref sig .tc := ⟨.hbm, 359, rfl⟩
abbrev main_c_71 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_v211 : Ref sig .tc := ⟨.hbm, 365, rfl⟩
abbrev main_v212 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩

abbrev nD : Nat := 1
abbrev τ : Topo := Topo.v7x

variable {F : FTy → Type} [FloatOps F]
-- ==== Proof.Suppress.lean ====
module
public import Idealize.ShloMosaic.Lib.ValueIdx

@[expose] public section

/-! # Non-maximum suppression under two ways of padding

The two programs compute, from a score map, the same mask of local maxima in three stages: a start
mask and two suppression steps.  They differ in their 5×5 maximum pools alone: one pads the map by
`-∞`, the other by `0`.  Here the stages are stated once as predicates (`Stage`), with the border
`B` on which a padding by `0` shows as a parameter, and it is proved that away from the border the
parameter does not matter (`stage_iff`).  Then the stages computed with bits are tied to the
predicates (`mask_iff`), whatever the pool is, from what the pool's bounds from above are. -/

namespace Cert.Suppress

open Idealize.ShloMosaic

section Predicates

variable {P : Type} (N : P → P → Prop) (B : P → Prop) (x : P → EReal)

/-- Point `p` is suppressed by the mask `m`: its window holds a point of the mask. -/
def Supp (m : P → Prop) (p : P) : Prop := ∃ q, N p q ∧ m q

open Classical in
/-- The score map with the suppressed points' scores set to zero. -/
noncomputable def rest (m : P → Prop) (p : P) : EReal := if Supp N m p then 0 else x p

/-- `v` at `p` is at least every value of its window, and at least zero on the border. -/
def Top (v : P → EReal) (p : P) : Prop := (∀ q, N p q → v q ≤ v p) ∧ (B p → 0 ≤ v p)

/-- The mask after `n` suppression steps: at first the maxima of their windows; then those and the
unsuppressed points that are maxima of the map without the suppressed scores. -/
def Stage : ℕ → P → Prop
  | 0 => Top N B x
  | n + 1 => fun p => Stage n p ∨ (Top N B (rest N x (Stage n)) p ∧ ¬ Supp N (Stage n) p)

variable {N B x}

theorem rest_of_supp {m : P → Prop} {p : P} (h : Supp N m p) : rest N x m p = 0 := if_pos h

theorem rest_of_not {m : P → Prop} {p : P} (h : ¬ Supp N m p) : rest N x m p = x p := if_neg h

/-- At a negative score no suppression step adds anything to the start mask. -/
theorem stage_neg (n : ℕ) (p : P) (hp : x p < 0) : Stage N B x n p ↔ Top N B x p := by
  induction n with
  | zero => exact Iff.rfl
  | succ n ih =>
    refine ⟨fun h => h.elim ih.1 fun ⟨⟨hw, hb⟩, hs⟩ => ?_, fun h => Or.inl (ih.2 h)⟩
    rw [rest_of_not hs] at hw hb
    refine ⟨fun q hq => ?_, hb⟩
    have hle := hw q hq
    by_cases hsq : Supp N (Stage N B x n) q
    · rw [rest_of_supp hsq] at hle
      exact absurd (lt_of_le_of_lt hle hp) (lt_irrefl _)
    · rwa [rest_of_not hsq] at hle

/-- At a nonnegative score the mask does not depend on the border. -/
theorem stage_nonneg (B' : P → Prop) (hsymm : ∀ p q, N p q → N q p) (n : ℕ) (p : P) (hp : 0 ≤ x p) :
    Stage N B x n p ↔ Stage N B' x n p := by
  induction n generalizing p with
  | zero => exact and_congr Iff.rfl ⟨fun _ _ => hp, fun _ _ => hp⟩
  | succ n ih =>
    have supp : ∀ q, 0 ≤ x q → ∀ C D : P → Prop, (∀ r, 0 ≤ x r → (Stage N C x n r ↔ Stage N D x n r)) →
        Supp N (Stage N C x n) q → Supp N (Stage N D x n) q := by
      rintro q hq C D hCD ⟨r, hr, hm⟩
      rcases le_or_gt 0 (x r) with h | h
      · exact ⟨r, hr, (hCD r h).1 hm⟩
      · exact absurd (lt_of_le_of_lt (le_trans hq (((stage_neg n r h).1 hm).1 q (hsymm q r hr))) h) (lt_irrefl _)
    have supp_iff : ∀ q, 0 ≤ x q → (Supp N (Stage N B x n) q ↔ Supp N (Stage N B' x n) q) := fun q hq =>
      ⟨supp q hq B B' ih, supp q hq B' B fun r hr => (ih r hr).symm⟩
    have low : ∀ (C : P → Prop) (q : P), x q < 0 → rest N x (Stage N C x n) q ≤ x p := by
      intro C q hq
      by_cases h : Supp N (Stage N C x n) q
      · rwa [rest_of_supp h]
      · rw [rest_of_not h]; exact le_trans hq.le hp
    refine or_congr (ih p hp) ?_
    rw [supp_iff p hp]
    refine and_congr_left fun hs => ?_
    have hs' : ¬ Supp N (Stage N B x n) p := fun h => hs ((supp_iff p hp).1 h)
    unfold Top
    rw [rest_of_not hs, rest_of_not hs']
    refine and_congr (forall_congr' fun q => imp_congr_right fun _ => ?_) ⟨fun _ _ => hp, fun _ _ => hp⟩
    rcases le_or_gt 0 (x q) with h | h
    · by_cases hq : Supp N (Stage N B x n) q
      · rw [rest_of_supp hq, rest_of_supp ((supp_iff q h).1 hq)]
      · rw [rest_of_not hq, rest_of_not fun hh => hq ((supp_iff q h).2 hh)]
    · exact ⟨fun _ => low B' q h, fun _ => low B q h⟩

/-- Away from both borders the mask does not depend on which border is taken. -/
theorem stage_iff (B' : P → Prop) (hsymm : ∀ p q, N p q → N q p) (n : ℕ) (p : P) (hB : ¬ B p) (hB' : ¬ B' p) :
    Stage N B x n p ↔ Stage N B' x n p := by
  rcases le_or_gt 0 (x p) with h | h
  · exact stage_nonneg B' hsymm n p h
  · rw [stage_neg n p h, stage_neg n p h]
    exact and_congr Iff.rfl ⟨fun _ hb => absurd hb hB', fun _ hb => absurd hb hB⟩

end Predicates

section Bits

variable {J : Type} (pool : (J → EReal) → J → EReal) (x : J → EReal)

/-- A mask of bits as a map of the numbers zero and one. -/
noncomputable def asReal (m : J → BitVec 1) (j : J) : EReal := if m j = 1#1 then 1 else 0

/-- The points whose window meets the mask. -/
noncomputable def supp (m : J → BitVec 1) (j : J) : BitVec 1 := Ideal.cmp .ogt (pool (asReal m) j) 0

/-- The scores of the points that are not suppressed, zero elsewhere. -/
noncomputable def left (m : J → BitVec 1) (j : J) : EReal := if supp pool m j = 1#1 then 0 else x j

/-- The mask after `n` suppression steps, in bits, with `pool` for the maximum pool. -/
noncomputable def mask : ℕ → J → BitVec 1
  | 0 => fun j => Ideal.cmp .oeq (x j) (pool x j)
  | n + 1 => fun j => mask n j |||
      (Ideal.cmp .oeq (left pool x (mask n) j) (pool (left pool x (mask n)) j) &&& ~~~ (supp pool (mask n) j))

theorem ofBool_eq_one (b : Bool) : BitVec.ofBool b = 1#1 ↔ b = true := by cases b <;> decide

theorem or_eq_one (a b : BitVec 1) : a ||| b = 1#1 ↔ a = 1#1 ∨ b = 1#1 := by revert a b; decide

theorem and_not_eq_one (a b : BitVec 1) : a &&& ~~~ b = 1#1 ↔ a = 1#1 ∧ ¬ b = 1#1 := by revert a b; decide

theorem bit_ext (a b : BitVec 1) : (a = 1#1 ↔ b = 1#1) → a = b := by revert a b; decide

variable {P : Type} {N : P → P → Prop} {B : P → Prop} {pool}

/-- Let the points of `P` lie in the map by `e`, and let the pool at a point be bounded by `t`
exactly when the values of the point's window are, and, on the border, zero is.  Then the mask of
bits is at every point the predicate `Stage` of that window and border. -/
theorem mask_iff (e : P → J) (hrefl : ∀ p, N p p)
    (hpool : ∀ (v : J → EReal) (p : P) (t : EReal), pool v (e p) ≤ t ↔ (∀ q, N p q → v (e q) ≤ t) ∧ (B p → 0 ≤ t))
    (n : ℕ) (p : P) : mask pool x n (e p) = 1#1 ↔ Stage N B (fun q => x (e q)) n p := by
  have top : ∀ (v : J → EReal) (p : P), Ideal.cmp .oeq (v (e p)) (pool v (e p)) = 1#1 ↔ Top N B (fun q => v (e q)) p := by
    intro v p
    unfold Ideal.cmp
    rw [ofBool_eq_one, decide_eq_true_iff]
    have hle : v (e p) ≤ pool v (e p) := ((hpool v p _).1 le_rfl).1 p (hrefl p)
    exact ⟨fun h => (hpool v p _).1 h.ge, fun h => le_antisymm hle ((hpool v p _).2 h)⟩
  induction n generalizing p with
  | zero => exact top x p
  | succ n ih =>
    have hs : ∀ q, supp pool (mask pool x n) (e q) = 1#1 ↔ Supp N (Stage N B (fun q => x (e q)) n) q := by
      intro q
      unfold supp Ideal.cmp
      rw [ofBool_eq_one, decide_eq_true_iff, ← not_le, hpool]
      constructor
      · intro h
        by_contra hn
        refine h ⟨fun r hr => ?_, fun _ => le_rfl⟩
        unfold asReal
        rw [if_neg fun hm => hn ⟨r, hr, (ih r).1 hm⟩]
      · rintro ⟨r, hr, hm⟩ h
        have := h.1 r hr
        unfold asReal at this
        rw [if_pos ((ih r).2 hm)] at this
        exact absurd this (by norm_num)
    have hl : (fun q => left pool x (mask pool x n) (e q)) = rest N (fun q => x (e q)) (Stage N B (fun q => x (e q)) n) := by
      funext q
      unfold left
      by_cases h : Supp N (Stage N B (fun q => x (e q)) n) q
      · rw [rest_of_supp h, if_pos ((hs q).2 h)]
      · rw [rest_of_not h, if_neg fun hh => h ((hs q).1 hh)]
    refine (or_eq_one _ _).trans (or_congr (ih p) ((and_not_eq_one _ _).trans (and_congr ?_ (not_congr (hs p)))))
    rw [top, hl]

end Bits

end Cert.Suppress
-- ==== Proof.Window.lean ====
module
public import proofs.«01_k».proof.Proof.Suppress

@[expose] public section

/-! # Points, windows and borders of a 512×512 map

The neighbourhoods over which both programs take their maxima, the maximum of five entries of a
zero-padded line, and the map both programs compute (`nms`). -/

namespace Cert.Window

/-- A point of the map: its row and its column. -/
abbrev Pt := Fin 512 × Fin 512

/-- Two coordinates are at most two apart. -/
def Close (i j : Fin 512) : Prop := i.val ≤ j.val + 2 ∧ j.val ≤ i.val + 2

/-- A coordinate is one of the first two or the last two. -/
def Rim (i : Fin 512) : Prop := i.val < 2 ∨ 510 ≤ i.val

/-- Two points are at most two rows and two columns apart: each is in the other's 5×5 window. -/
def Near (p q : Pt) : Prop := Close p.1 q.1 ∧ Close p.2 q.2

/-- A point is in the first two or last two rows or columns: its 5×5 window leaves the map. -/
def Edge (p : Pt) : Prop := Rim p.1 ∨ Rim p.2

theorem close_refl (i : Fin 512) : Close i i := ⟨Nat.le_add_right _ _, Nat.le_add_right _ _⟩

theorem near_refl (p : Pt) : Near p p := ⟨close_refl _, close_refl _⟩

theorem near_symm (p q : Pt) (h : Near p q) : Near q p := ⟨⟨h.1.2, h.1.1⟩, ⟨h.2.2, h.2.1⟩⟩

/-- Five consecutive entries of a line padded by two zeros at either end are bounded by `t` exactly
when the entries close to the middle one are, and, where the padding is met, zero is. -/
theorem five_le (f : Fin 516 → EReal) (g : Fin 512 → EReal)
    (hin : ∀ i : Fin 512, f ⟨i.val + 2, by omega⟩ = g i) (hout : ∀ r : Fin 516, r.val < 2 ∨ 514 ≤ r.val → f r = 0)
    (i : Fin 512) (t : EReal) :
    max (max (max (max (f ⟨0 + i.val, by omega⟩) (f ⟨1 + i.val, by omega⟩)) (f ⟨2 + i.val, by omega⟩))
        (f ⟨3 + i.val, by omega⟩)) (f ⟨4 + i.val, by omega⟩) ≤ t
      ↔ (∀ j, Close i j → g j ≤ t) ∧ (Rim i → 0 ≤ t) := by
  have all : (max (max (max (max (f ⟨0 + i.val, by omega⟩) (f ⟨1 + i.val, by omega⟩)) (f ⟨2 + i.val, by omega⟩))
        (f ⟨3 + i.val, by omega⟩)) (f ⟨4 + i.val, by omega⟩) ≤ t) ↔ ∀ k : Fin 5, f ⟨k.val + i.val, by omega⟩ ≤ t := by
    simp only [max_le_iff]
    constructor
    · rintro ⟨⟨⟨⟨h0, h1⟩, h2⟩, h3⟩, h4⟩ k
      match k with
      | ⟨0, _⟩ => exact h0
      | ⟨1, _⟩ => exact h1
      | ⟨2, _⟩ => exact h2
      | ⟨3, _⟩ => exact h3
      | ⟨4, _⟩ => exact h4
    · intro h
      exact ⟨⟨⟨⟨h 0, h 1⟩, h 2⟩, h 3⟩, h 4⟩
  rw [all]
  constructor
  · intro h
    refine ⟨fun j hj => ?_, fun hr => ?_⟩
    · have hj1 := hj.1
      have hj2 := hj.2
      have := h ⟨j.val + 2 - i.val, by omega⟩
      rw [← hin j]
      convert this using 3
      simp only
      omega
    · rcases hr with hr | hr
      · have := h 0
        rwa [hout _ (Or.inl (by simp only; show 0 + i.val < 2; omega))] at this
      · have := h 4
        rwa [hout _ (Or.inr (by simp only; show 514 ≤ 4 + i.val; omega))] at this
  · rintro ⟨h, hr⟩ k
    have hk := k.isLt
    by_cases hlo : k.val + i.val < 2
    · rw [hout _ (Or.inl hlo)]
      exact hr (Or.inl (by omega))
    · by_cases hhi : 514 ≤ k.val + i.val
      · rw [hout _ (Or.inr hhi)]
        exact hr (Or.inr (by omega))
      · have hj := hin ⟨k.val + i.val - 2, by omega⟩
        have e : (⟨k.val + i.val - 2 + 2, by omega⟩ : Fin 516) = ⟨k.val + i.val, by omega⟩ := Fin.ext (by simp only; omega)
        rw [e] at hj
        rw [hj]
        exact h _ ⟨by simp only; omega, by simp only; omega⟩

open Classical in
/-- The map with everything but the surviving maxima set to zero, and the edge too: what both
programs compute of the map `f`, with `B` for the border of the pools. -/
noncomputable def nms (B : Pt → Prop) (f : Pt → EReal) (p : Pt) : EReal :=
  if Edge p then 0 else if Cert.Suppress.Stage Near B f 2 p then f p else 0

/-- As the edge is set to zero, pools padded by zero and pools padded by `-∞` leave the same map. -/
theorem nms_edge (f : Pt → EReal) (p : Pt) : nms Edge f p = nms (fun _ => False) f p := by
  unfold nms
  by_cases h : Edge p
  · rw [if_pos h, if_pos h]
  · rw [if_neg h, if_neg h]
    have hs := Cert.Suppress.stage_iff (N := Near) (B := Edge) (x := f) (fun _ => False) near_symm 2 p h id
    by_cases hm : Cert.Suppress.Stage Near Edge f 2 p
    · rw [if_pos hm, if_pos (hs.1 hm)]
    · rw [if_neg hm, if_neg fun hh => hm (hs.2 hh)]

end Cert.Window
-- ==== Proof.KernelMap.lean ====
module

public import proofs.«01_k».proof.Proof.Gen.KernelIdeal.Frame
public import proofs.«01_k».proof.Proof.Suppress
public import proofs.«01_k».proof.Proof.Window
public import Idealize.ShloMosaic.Lib.Pipeline.Value
public import Idealize.ShloMosaic.Lib.Pipeline.ValueKit
public import Idealize.ShloMosaic.Lib.ValueLayout
public import Idealize.ShloMosaic.Lib.ValueIdx
public import Idealize.ShloMosaic.Lib.WordCmp

@[expose] public section

set_option maxRecDepth 16384

/-! # What the kernel writes at one grid point

The kernel's body reads a 512×512 map, pools it five times and writes the map with everything but the
surviving maxima set to zero.  Here each pool is read as a bound from above (`pool_le`), the body's
masks as the stages of `Cert.Suppress`, and the block written at an index (`out_apply`). -/

noncomputable section

namespace Cert.KernelMap

open Idealize.ShloMosaic
open Cert.KernelIdeal Cert.KernelIdeal.Gen
open Cert.Suppress Cert.Window

/-- A map of the extended reals, 512 by 512. -/
abbrev Map := FVec Ideal S512x512 .f32

/-- The kernel's zero, as a padding. -/
abbrev zero : Ideal .f32 := Scalar.ofBits .f32 0x00000000#32

theorem zero_eq : zero = (0 : EReal) := Ideal.ofBits_zero_f32

/-- A map between two rows of zeros and two more, as pieces. -/
abbrev rowPieces (v : Map) : List ((s : Shape) × (s.Idx → Ideal .f32)) :=
  [⟨S2x512, broadcast S2x512 zero⟩, ⟨S512x512, v⟩, ⟨S2x512, broadcast S2x512 zero⟩]

/-- A map between two columns of zeros and two more, as pieces. -/
abbrev colPieces (v : Map) : List ((s : Shape) × (s.Idx → Ideal .f32)) :=
  [⟨S512x2, broadcast S512x2 zero⟩, ⟨S512x512, v⟩, ⟨S512x2, broadcast S512x2 zero⟩]

/-- The map with two rows of zeros above and below. -/
def padRows (v : Map) : FVec Ideal S516x512 .f32 :=
  concatenate S516x512 0 (rowPieces v) concatenates_S2x512_S512x512_S2x512_S516x512_d0

/-- The map with two columns of zeros on the left and on the right. -/
def padCols (v : Map) : FVec Ideal S512x516 .f32 :=
  concatenate S512x516 1 (colPieces v) concatenates_S512x2_S512x512_S512x2_S512x516_d1

/-- The maximum over five consecutive rows of the padded map. -/
def rows (v : Map) : Map :=
  maximumf (maximumf (maximumf (maximumf
    (extractStridedSlice S512x512 ![0, 0] (padRows v) slices_S516x512_o0_0_S512x512)
    (extractStridedSlice S512x512 ![1, 0] (padRows v) slices_S516x512_o1_0_S512x512))
    (extractStridedSlice S512x512 ![2, 0] (padRows v) slices_S516x512_o2_0_S512x512))
    (extractStridedSlice S512x512 ![3, 0] (padRows v) slices_S516x512_o3_0_S512x512))
    (extractStridedSlice S512x512 ![4, 0] (padRows v) slices_S516x512_o4_0_S512x512)

/-- The maximum over five consecutive columns of the padded map. -/
def cols (v : Map) : Map :=
  maximumf (maximumf (maximumf (maximumf
    (extractStridedSlice S512x512 ![0, 0] (padCols v) slices_S512x516_o0_0_S512x512)
    (extractStridedSlice S512x512 ![0, 1] (padCols v) slices_S512x516_o0_1_S512x512))
    (extractStridedSlice S512x512 ![0, 2] (padCols v) slices_S512x516_o0_2_S512x512))
    (extractStridedSlice S512x512 ![0, 3] (padCols v) slices_S512x516_o0_3_S512x512))
    (extractStridedSlice S512x512 ![0, 4] (padCols v) slices_S512x516_o0_4_S512x512)

/-- The kernel's 5×5 maximum pool. -/
def pool (v : S512x512.Idx → EReal) : S512x512.Idx → EReal := cols (rows v)

/-- Inside, the row-padded map is the map two rows up. -/
theorem padRows_in (v : Map) (i j : Fin 512) : padRows v (ValueIdx.ix2 (⟨i.val + 2, by omega⟩ : Fin 516) j) = v (ValueIdx.ix2 i j) :=
  concatenate_apply_piece (t := S516x512) 0 (rowPieces v) concatenates_S2x512_S512x512_S2x512_S516x512_d0 _ 1 (by show 1 < 3; decide) S512x512 v rfl rfl 2 rfl (ValueIdx.ix2 i j)
    (by intro b hb; match b with
        | ⟨0, _⟩ => exact absurd rfl hb
        | ⟨1, _⟩ => rfl)
    (by show 2 + i.val = i.val + 2; omega)

/-- In its first two and last two rows the row-padded map is zero. -/
theorem padRows_out (v : Map) (r : Fin 516) (j : Fin 512) (h : r.val < 2 ∨ 514 ≤ r.val) : padRows v (ValueIdx.ix2 r j) = (0 : EReal) := by
  rcases h with h | h
  · exact (concatenate_apply_piece (t := S516x512) 0 (rowPieces v) concatenates_S2x512_S512x512_S2x512_S516x512_d0 _ 0 (by show 0 < 3; decide) S2x512 (broadcast S2x512 zero)
      rfl rfl 0 rfl (ValueIdx.ix2 (⟨r.val, h⟩ : Fin 2) j)
      (by intro b hb; match b with
          | ⟨0, _⟩ => exact absurd rfl hb
          | ⟨1, _⟩ => rfl)
      (by show 0 + r.val = r.val; omega)).trans zero_eq
  · exact (concatenate_apply_piece (t := S516x512) 0 (rowPieces v) concatenates_S2x512_S512x512_S2x512_S516x512_d0 _ 2 (by show 2 < 3; decide) S2x512 (broadcast S2x512 zero)
      rfl rfl 514 rfl (ValueIdx.ix2 (⟨r.val - 514, by omega⟩ : Fin 2) j)
      (by intro b hb; match b with
          | ⟨0, _⟩ => exact absurd rfl hb
          | ⟨1, _⟩ => rfl)
      (by show 514 + (r.val - 514) = r.val; omega)).trans zero_eq

/-- Inside, the column-padded map is the map two columns to the left. -/
theorem padCols_in (v : Map) (i j : Fin 512) : padCols v (ValueIdx.ix2 i (⟨j.val + 2, by omega⟩ : Fin 516)) = v (ValueIdx.ix2 i j) :=
  concatenate_apply_piece (t := S512x516) 1 (colPieces v) concatenates_S512x2_S512x512_S512x2_S512x516_d1 _ 1 (by show 1 < 3; decide) S512x512 v rfl rfl 2 rfl (ValueIdx.ix2 i j)
    (by intro b hb; match b with
        | ⟨0, _⟩ => rfl
        | ⟨1, _⟩ => exact absurd rfl hb)
    (by show 2 + j.val = j.val + 2; omega)

/-- In its first two and last two columns the column-padded map is zero. -/
theorem padCols_out (v : Map) (i : Fin 512) (r : Fin 516) (h : r.val < 2 ∨ 514 ≤ r.val) : padCols v (ValueIdx.ix2 i r) = (0 : EReal) := by
  rcases h with h | h
  · exact (concatenate_apply_piece (t := S512x516) 1 (colPieces v) concatenates_S512x2_S512x512_S512x2_S512x516_d1 _ 0 (by show 0 < 3; decide) S512x2 (broadcast S512x2 zero)
      rfl rfl 0 rfl (ValueIdx.ix2 i (⟨r.val, h⟩ : Fin 2))
      (by intro b hb; match b with
          | ⟨0, _⟩ => rfl
          | ⟨1, _⟩ => exact absurd rfl hb)
      (by show 0 + r.val = r.val; omega)).trans zero_eq
  · exact (concatenate_apply_piece (t := S512x516) 1 (colPieces v) concatenates_S512x2_S512x512_S512x2_S512x516_d1 _ 2 (by show 2 < 3; decide) S512x2 (broadcast S512x2 zero)
      rfl rfl 514 rfl (ValueIdx.ix2 i (⟨r.val - 514, by omega⟩ : Fin 2))
      (by intro b hb; match b with
          | ⟨0, _⟩ => rfl
          | ⟨1, _⟩ => exact absurd rfl hb)
      (by show 514 + (r.val - 514) = r.val; omega)).trans zero_eq

/-- A slice of 512 rows from row `k` on, read at a point. -/
theorem slice_rows (w : FVec Ideal S516x512 .f32) (k : Nat) (hs : S516x512.Slices ![k, 0] S512x512) (i j : Fin 512) (hk : k + i.val < 516) :
    extractStridedSlice S512x512 ![k, 0] w hs (ValueIdx.ix2 i j) = w (ValueIdx.ix2 (⟨k + i.val, hk⟩ : Fin 516) j) :=
  extractStridedSlice_apply _ w hs _ _ fun a => match a with
    | ⟨0, _⟩ => rfl
    | ⟨1, _⟩ => (Nat.zero_add j.val).symm

/-- A slice of 512 columns from column `k` on, read at a point. -/
theorem slice_cols (w : FVec Ideal S512x516 .f32) (k : Nat) (hs : S512x516.Slices ![0, k] S512x512) (i j : Fin 512) (hk : k + j.val < 516) :
    extractStridedSlice S512x512 ![0, k] w hs (ValueIdx.ix2 i j) = w (ValueIdx.ix2 i (⟨k + j.val, hk⟩ : Fin 516)) :=
  extractStridedSlice_apply _ w hs _ _ fun a => match a with
    | ⟨0, _⟩ => (Nat.zero_add i.val).symm
    | ⟨1, _⟩ => rfl

/-- The row maximum at a point is at most `t` exactly when the entries close to it in its column are,
and zero is where the rows' padding is met. -/
theorem rows_le (v : Map) (i j : Fin 512) (t : EReal) :
    (rows v (ValueIdx.ix2 i j) : EReal) ≤ t ↔ (∀ r, Close i r → (v (ValueIdx.ix2 r j) : EReal) ≤ t) ∧ (Rim i → 0 ≤ t) := by
  rw [← five_le (fun r => padRows v (ValueIdx.ix2 r j)) (fun r => v (ValueIdx.ix2 r j)) (fun r => padRows_in v r j) (fun r h => padRows_out v r j h) i t]
  unfold rows
  simp only [← slice_rows (padRows v) 0 slices_S516x512_o0_0_S512x512 i j (by omega),
    ← slice_rows (padRows v) 1 slices_S516x512_o1_0_S512x512 i j (by omega),
    ← slice_rows (padRows v) 2 slices_S516x512_o2_0_S512x512 i j (by omega),
    ← slice_rows (padRows v) 3 slices_S516x512_o3_0_S512x512 i j (by omega),
    ← slice_rows (padRows v) 4 slices_S516x512_o4_0_S512x512 i j (by omega)]
  exact Iff.rfl

/-- The column maximum at a point is at most `t` exactly when the entries close to it in its row are,
and zero is where the columns' padding is met. -/
theorem cols_le (v : Map) (i j : Fin 512) (t : EReal) :
    (cols v (ValueIdx.ix2 i j) : EReal) ≤ t ↔ (∀ r, Close j r → (v (ValueIdx.ix2 i r) : EReal) ≤ t) ∧ (Rim j → 0 ≤ t) := by
  rw [← five_le (fun r => padCols v (ValueIdx.ix2 i r)) (fun r => v (ValueIdx.ix2 i r)) (fun r => padCols_in v i r) (fun r h => padCols_out v i r h) j t]
  unfold cols
  simp only [← slice_cols (padCols v) 0 slices_S512x516_o0_0_S512x512 i j (by omega),
    ← slice_cols (padCols v) 1 slices_S512x516_o0_1_S512x512 i j (by omega),
    ← slice_cols (padCols v) 2 slices_S512x516_o0_2_S512x512 i j (by omega),
    ← slice_cols (padCols v) 3 slices_S512x516_o0_3_S512x512 i j (by omega),
    ← slice_cols (padCols v) 4 slices_S512x516_o0_4_S512x512 i j (by omega)]
  exact Iff.rfl

/-- A point of the map as an index. -/
def at2 (p : Pt) : S512x512.Idx := ValueIdx.ix2 p.1 p.2

/-- The kernel's pool at a point is at most `t` exactly when the entries of its window are, and zero
is at a point of the edge. -/
theorem pool_le (v : S512x512.Idx → EReal) (p : Pt) (t : EReal) :
    pool v (at2 p) ≤ t ↔ (∀ q, Near p q → v (at2 q) ≤ t) ∧ (Edge p → 0 ≤ t) := by
  refine (cols_le (rows v) p.1 p.2 t).trans ?_
  constructor
  · rintro ⟨h, hc⟩
    refine ⟨fun q hq => ((rows_le v p.1 q.2 t).1 (h q.2 hq.2)).1 q.1 hq.1, fun he => ?_⟩
    rcases he with he | he
    · exact ((rows_le v p.1 p.2 t).1 (h p.2 (close_refl _))).2 he
    · exact hc he
  · rintro ⟨h, he⟩
    exact ⟨fun r hr => (rows_le v p.1 r t).2 ⟨fun s hs => h (s, r) ⟨hs, hr⟩, fun hb => he (Or.inl hb)⟩,
      fun hb => he (Or.inr hb)⟩

/-- The kernel's cast of a mask to numbers. -/
def cast (m : IVec S512x512 1) : Map := sitofp .f32 (extui 32 m natLt_1_32)

theorem cast_eq (m : IVec S512x512 1) : cast m = asReal m := by
  funext i
  show (((m i).setWidth 32).toInt : ℝ) = ((if m i = 1#1 then 1 else 0 : EReal))
  have : m i = 0#1 ∨ m i = 1#1 := by generalize m i = b; revert b; decide
  rcases this with h | h <;> rw [h]
  · rw [if_neg (by decide), show ((0#1).setWidth 32).toInt = 0 by decide]; simp
  · rw [if_pos rfl, show ((1#1).setWidth 32).toInt = 1 by decide]; simp

/-- The points the kernel suppresses. -/
def suppK (m : IVec S512x512 1) : IVec S512x512 1 := cmpf .ogt (pool (cast m)) (broadcast S512x512 zero)

theorem suppK_eq (m : IVec S512x512 1) : suppK m = supp pool m := by
  unfold suppK
  rw [cast_eq]
  funext i
  show Ideal.cmp .ogt (pool (asReal m) i) zero = Ideal.cmp .ogt (pool (asReal m) i) 0
  rw [zero_eq]

/-- The kernel's scores without the suppressed ones. -/
def leftK (s : IVec S512x512 1) (v : Map) : Map := select s (broadcast S512x512 zero) v

theorem leftK_eq (m : IVec S512x512 1) (v : Map) : leftK (supp pool m) v = left pool v m := by
  funext i
  show (if supp pool m i = 1#1 then zero else v i) = if supp pool m i = 1#1 then (0 : EReal) else v i
  rw [zero_eq]

/-- One suppression step of the kernel. -/
def stepK (v : Map) (m s : IVec S512x512 1) : IVec S512x512 1 :=
  ori m (andi (cmpf .oeq (leftK s v) (pool (leftK s v))) (xori s (constantI S512x512 1 1#1)))

theorem stepK_eq (v : Map) (n : ℕ) : stepK v (mask pool v n) (supp pool (mask pool v n)) = mask pool v (n + 1) := by
  unfold stepK
  rw [leftK_eq]
  funext i
  show mask pool v n i ||| (_ &&& (supp pool (mask pool v n) i ^^^ 1#1)) = mask pool v n i ||| (_ &&& ~~~ (supp pool (mask pool v n) i))
  have : ∀ b : BitVec 1, b ^^^ 1#1 = ~~~ b := by decide
  rw [this]
  rfl

/-- The points the kernel sets to zero at the end. -/
def border : IVec S512x512 1 :=
  ori (ori (ori (cmpi .slt (iota .tc S512x512 32 [0] iota_S512x512_d0_w32) (broadcast S512x512 2#32))
    (cmpi .sge (iota .tc S512x512 32 [0] iota_S512x512_d0_w32) (broadcast S512x512 510#32)))
    (cmpi .slt (iota .tc S512x512 32 [1] iota_S512x512_d1_w32) (broadcast S512x512 2#32)))
    (cmpi .sge (iota .tc S512x512 32 [1] iota_S512x512_d1_w32) (broadcast S512x512 510#32))

theorem border_iff (p : Pt) : border (at2 p) = 1#1 ↔ Edge p := by
  have e0 : iota .tc S512x512 32 [0] iota_S512x512_d0_w32 (at2 p) = BitVec.ofNat 32 p.1.val := iota_single_apply _ _ _ _ _ _
  have e1 : iota .tc S512x512 32 [1] iota_S512x512_d1_w32 (at2 p) = BitVec.ofNat 32 p.2.val := iota_single_apply _ _ _ _ _ _
  have lt : ∀ a : Fin 512, IntOp.cmpi .slt (BitVec.ofNat 32 a.val) 2#32 = 1#1 ↔ a.val < 2 := by
    intro a
    rw [WordCmp.cmpi_slt_ofNat (w := 32) (a := a.val) (b := 2) (by omega) (by omega), ofBool_eq_one, decide_eq_true_iff]
  have ge : ∀ a : Fin 512, IntOp.cmpi .sge (BitVec.ofNat 32 a.val) 510#32 = 1#1 ↔ 510 ≤ a.val := by
    intro a
    rw [WordCmp.cmpi_sge_ofNat (w := 32) (a := a.val) (b := 510) (by omega) (by omega), ofBool_eq_one, decide_eq_true_iff]
  show IntOp.cmpi .slt (iota .tc S512x512 32 [0] iota_S512x512_d0_w32 (at2 p)) 2#32
      ||| IntOp.cmpi .sge (iota .tc S512x512 32 [0] iota_S512x512_d0_w32 (at2 p)) 510#32
      ||| IntOp.cmpi .slt (iota .tc S512x512 32 [1] iota_S512x512_d1_w32 (at2 p)) 2#32
      ||| IntOp.cmpi .sge (iota .tc S512x512 32 [1] iota_S512x512_d1_w32 (at2 p)) 510#32 = 1#1 ↔ _
  rw [e0, e1, or_eq_one, or_eq_one, or_eq_one, lt, lt, ge, ge]
  exact or_assoc

/-- The kernel's block as one function of the map it reads. -/
theorem body_eq (x : Vec Ideal S1x512x512 .f32) :
    out0_1 x = k0_pay1 (select border (broadcast S512x512 zero)
      (select (mask pool (k0_pay2 x) 2) (k0_pay2 x) (broadcast S512x512 zero))) := by
  have h0 : k0_pay3 x = mask pool (k0_pay2 x) 0 := rfl
  have h1 : k0_pay4 x = supp pool (mask pool (k0_pay2 x) 0) := by
    rw [← suppK_eq, ← h0]; rfl
  have h2 : k0_pay5 (k0_pay2 x) (k0_pay3 x) (k0_pay4 x) = mask pool (k0_pay2 x) 1 := by
    rw [← stepK_eq, ← h1, ← h0]; rfl
  have h3 : cmpf .ogt (k0_pay6 (k0_pay2 x) (k0_pay3 x) (k0_pay4 x)) (k0_pay7 (F := Ideal)) = supp pool (mask pool (k0_pay2 x) 1) := by
    rw [← suppK_eq, ← h2]; rfl
  unfold_out out0_1
  rw [View.canon_cons_unit_lit _ _ _ (fun a => by fin_cases a <;> rfl), View.ld_unit_lit _ _ (fun a => by fin_cases a <;> rfl)]
  congr 1
  have h4 : k0_pay8 (k0_pay2 x) (k0_pay5 (k0_pay2 x) (k0_pay3 x) (k0_pay4 x)) (k0_pay6 (k0_pay2 x) (k0_pay3 x) (k0_pay4 x)) k0_pay7
      = select border (broadcast S512x512 zero) (select (stepK (k0_pay2 x) (k0_pay5 (k0_pay2 x) (k0_pay3 x) (k0_pay4 x))
        (cmpf .ogt (k0_pay6 (k0_pay2 x) (k0_pay3 x) (k0_pay4 x)) k0_pay7)) (k0_pay2 x) (broadcast S512x512 zero)) := rfl
  rw [h4, h3, h2, stepK_eq]

/-- The block the kernel writes, at a point: zero on the edge; inside, the score of a surviving
maximum and zero elsewhere. -/
theorem out_apply (x : Vec Ideal S1x512x512 .f32) (p : Pt) :
    (out0_1 x (ValueIdx.ix3 (0 : Fin 1) p.1 p.2) : EReal) = nms Edge (fun q => (x (ValueIdx.ix3 (0 : Fin 1) q.1 q.2) : EReal)) p := by
  have hv : ∀ q : Pt, k0_pay2 x (at2 q) = x (ValueIdx.ix3 (0 : Fin 1) q.1 q.2) := fun q => ValueIdx.shapeCast_1ab_ab_apply x _ q.1 q.2
  have hm := mask_iff (x := k0_pay2 x) at2 near_refl pool_le 2 p
  simp only [hv] at hm
  rw [body_eq]
  unfold k0_pay1
  refine (ValueIdx.shapeCast_ab_1ab_apply _ shapeCasts_S512x512_S1x512x512 (0 : Fin 1) p.1 p.2).trans ?_
  show (if border (at2 p) = 1#1 then zero else if mask pool (k0_pay2 x) 2 (at2 p) = 1#1 then k0_pay2 x (at2 p) else zero) = _
  unfold nms
  rw [hv, zero_eq]
  classical exact if_congr (border_iff p) rfl (if_congr hm rfl rfl)

end Cert.KernelMap
-- ==== Proof.KernelArray.lean ====
module

public import proofs.«01_k».proof.Proof.KernelMap
public import Idealize.ShloMosaic.Lib.Pipeline.Value

@[expose] public section

set_option maxRecDepth 16384

/-! # The array the kernel leaves

The grid has one point per map of the batch; each point reads its map and writes it back suppressed.
Together the eight blocks are the whole array (`array_eq`). -/

noncomputable section

namespace Cert.KernelArray

open Idealize.ShloMosaic Idealize.ShloMosaic.TcCoe
open Cert.KernelIdeal Cert.KernelIdeal.Gen
open Cert.Window

variable (m : (ℓ : Loc nD τ sig) → Buf (Elt Ideal) ℓ)

/-- The eight maps the region finds. -/
abbrev maps (c : Dev nD) : S8x512x512.Idx → EReal := V m c main_v0

/-- Each of the eight maps suppressed. -/
def suppressed (x : S8x512x512.Idx → EReal) : S8x512x512.Idx → EReal := fun i =>
  nms Edge (fun q => x (ValueIdx.ix3 (i 0) q.1 q.2)) (i 1, i 2)

/-- The block of point `t` starts at map `t`. -/
theorem index_eq : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) := by
  decide +kernel

/-- Reading the input's block `t` at a point reads map `t` there. -/
theorem iblk_apply (c : Dev nD) (t : Fin cfg0.N) (p : Pt) :
    (iblk m c 0 t (ValueIdx.ix3 (0 : Fin 1) p.1 p.2) : EReal) = maps m c (ValueIdx.ix3 (⟨t.val, t.isLt⟩ : Fin 8) p.1 p.2) := by
  have e := (index_eq t).1
  show maps m c _ = maps m c _
  congr 1
  funext a
  apply Fin.ext
  match a with
  | ⟨0, _⟩ =>
    show win0_0.index t 0 * 1 + 1 * 0 = t.val
    omega
  | ⟨1, _⟩ =>
    show win0_0.index t 1 * 512 + 1 * p.1.val = p.1.val
    omega
  | ⟨2, _⟩ =>
    show win0_0.index t 2 * 512 + 1 * p.2.val = p.2.val
    omega

/-- What point `t` writes back is block `t` of the suppressed maps. -/
theorem flushed_eq (c : Dev nD) (t : Fin cfg0.N) :
    (dats m 0 c).flushed 1 t = (win0_1.blk t).view.read (Elt Ideal) (suppressed (maps m c)) := by
  show (cfg0.win 1).cut (grid0.coords t) ((dats m 0 c).after 1 t) = _
  rw [after0_1]
  funext i
  have e := (index_eq t).2
  have hi : i = ValueIdx.ix3 (0 : Fin 1) (i 1) (i 2) := by
    funext a
    match a with
    | ⟨0, _⟩ => exact Fin.ext (by have := (i 0).isLt; change (i 0).val < 1 at this; show (i 0).val = 0; omega)
    | ⟨1, _⟩ => rfl
    | ⟨2, _⟩ => rfl
  rw [hi]
  show (out0_1 (iblk m c 0 t) (ValueIdx.ix3 (0 : Fin 1) (i 1) (i 2)) : EReal) = suppressed (maps m c) ((win0_1.rect t).emb (ValueIdx.ix3 (0 : Fin 1) (i 1) (i 2)))
  have he : (win0_1.rect t).emb (ValueIdx.ix3 (0 : Fin 1) (i 1) (i 2)) = ValueIdx.ix3 (⟨t.val, t.isLt⟩ : Fin 8) (i 1) (i 2) := by
    funext a
    apply Fin.ext
    match a with
    | ⟨0, _⟩ =>
      show win0_1.index t 0 * 1 + 1 * 0 = t.val
      omega
    | ⟨1, _⟩ =>
      show win0_1.index t 1 * 512 + 1 * (i 1).val = (i 1).val
      omega
    | ⟨2, _⟩ =>
      show win0_1.index t 2 * 512 + 1 * (i 2).val = (i 2).val
      omega
  rw [he]
  refine (Cert.KernelMap.out_apply (iblk m c 0 t) (i 1, i 2)).trans ?_
  simp only [iblk_apply]
  rfl

/-- An index of the array lies in the block of point `t` exactly when it lies in map `t`. -/
theorem mem_blk (t : Fin cfg0.N) (i : S8x512x512.Idx) : i ∈ ((cfg0.win 1).blk t).view.set ↔ (i 0).val = t.val := by
  have e := (index_eq t).2
  show i ∈ ((View.whole main_v1).slice (win0_1.rect t)).set ↔ _
  rw [View.set_slice_whole, Rect.mem_set_unit]
  have h1 : (i 1).val < 512 := (i 1).isLt
  have h2 : (i 2).val < 512 := (i 2).isLt
  constructor
  · intro h
    have : win0_1.index t 0 * 1 ≤ (i 0).val ∧ (i 0).val < win0_1.index t 0 * 1 + 1 := h 0
    omega
  · intro h a
    match a with
    | ⟨0, _⟩ =>
      show win0_1.index t 0 * 1 ≤ (i 0).val ∧ (i 0).val < win0_1.index t 0 * 1 + 1
      omega
    | ⟨1, _⟩ =>
      show win0_1.index t 1 * 512 ≤ (i 1).val ∧ (i 1).val < win0_1.index t 1 * 512 + 512
      omega
    | ⟨2, _⟩ =>
      show win0_1.index t 2 * 512 ≤ (i 2).val ∧ (i 2).val < win0_1.index t 2 * 512 + 512
      omega

/-- The eight blocks are the whole array. -/
theorem cover (i : S8x512x512.Idx) : ∃ t : Fin cfg0.N, (cfg0.win 1).flush t = true ∧ i ∈ ((cfg0.win 1).blk t).view.set :=
  ⟨⟨(i 0).val, (i 0).isLt⟩, flush0_1 _, (mem_blk _ i).2 rfl⟩

/-- So the array ends holding the suppressed maps. -/
theorem array_eq (c : Dev nD) : (dats m 0 c).arrAt 1 cfg0.N = suppressed (maps m c) :=
  (dats m 0 c).arrAt_eq_of_cover 1 (suppressed (maps m c)) (fun t _ => flushed_eq m c t) cover

end Cert.KernelArray
-- ==== Proof.ReferenceMap.lean ====
module

public import proofs.«01_k».proof.Proof.Gen.ReferenceIdeal.Run
public import proofs.«01_k».proof.Proof.Window
public import Idealize.ShloMosaic.Lib.ValueIdx
public import Idealize.ShloMosaic.PureOps.Ideal.Laws
public import Idealize.ShloMosaic.Lib.Routing.OpsSet
public import Idealize.ShloMosaic.Lib.Routing.OpsPair

@[expose] public section

set_option maxRecDepth 16384

/-! # What the reference computes of the score maps

The reference pools by a window reduction from `-∞`, takes the same three stages of masks and
overwrites the edge by four scatters of zeros.  Here the pool is read as a bound from above
(`pool_le`), the masks as the stages of `Cert.Suppress`, the scatters at a point, and so the map as
`nms` of the scores (`suppressed_apply`). -/

noncomputable section

namespace Cert.ReferenceMap

open Idealize.ShloMosaic Idealize.ShloMosaic.TcCoe Idealize.ShloMosaic.StableHlo
open Cert.ReferenceIdeal Cert.ReferenceIdeal.Gen
open Cert.Suppress Cert.Window

/-- The batch of maps of the extended reals. -/
abbrev Maps := FVec Ideal S8x1x512x512 .f32

/-- A point of map `b` as an index of the batch. -/
def at4 (b : Fin 8) (p : Pt) : S8x1x512x512.Idx := ValueIdx.ix4 b (0 : Fin 1) p.1 p.2

/-- The reference's 5×5 maximum pool. -/
def pool (x : S8x1x512x512.Idx → EReal) : S8x1x512x512.Idx → EReal :=
  Host.reduceWindow (FloatOps.maximumf (F := Ideal) (φ := .f32)) ![1, 1, 5, 5] ![1, 1, 1, 1] ![0, 0, 2, 2] ![0, 0, 2, 2] x
    (broadcastInDim S_ ![] bcast_S_S_ (constant (F := Ideal) S_ .f32 0xFF800000#32))
    reduceWindows_S8x1x512x512_S8x1x512x512_w1s1p0_0_w1s1p0_0_w5s1p2_2_w5s1p2_2 h_S_

theorem neg_inf : Ideal.ofBits .f32 0xFF800000#32 = ⊥ := by simp [Ideal.ofBits, Ideal.ieee]

/-- A running maximum is at most `t` exactly when its start and every entry are. -/
theorem foldl_max_le {ι : Type} (g : ι → EReal) (l : List ι) (v t : EReal) :
    l.foldl (fun r n => max r (g n)) v ≤ t ↔ v ≤ t ∧ ∀ n ∈ l, g n ≤ t := by
  induction l generalizing v with
  | nil => simp
  | cons a l ih => rw [List.foldl_cons, ih, max_le_iff, List.forall_mem_cons, and_assoc]

/-- The shape of the window. -/
abbrev W : Shape := ⟨S8x1x512x512.rank, ![1, 1, 5, 5]⟩

/-- The coordinate of the padded batch that position `k` of the window at `j` reads. -/
abbrev place (j : S8x1x512x512.Idx) (k : W.Idx) (a : Fin S8x1x512x512.rank) : Nat :=
  (j a).val * (![1, 1, 1, 1] : Fin 4 → Nat) a + (k a).val

/-- What position `k` of the window at `j` holds: an entry, or the initial value in the padding. -/
def cell (x : S8x1x512x512.Idx → EReal) (v : EReal) (j : S8x1x512x512.Idx) (k : W.Idx) : EReal :=
  if hin : ∀ a, (![0, 0, 2, 2] : Fin 4 → Nat) a ≤ place j k a ∧ place j k a - (![0, 0, 2, 2] : Fin 4 → Nat) a < S8x1x512x512.size a then
    x (fun a => ⟨place j k a - (![0, 0, 2, 2] : Fin 4 → Nat) a, (hin a).2⟩) else v

theorem pool_eq (x : S8x1x512x512.Idx → EReal) (j : S8x1x512x512.Idx) :
    pool x j = (List.finRange W.numel).foldl (fun r n => max r (cell x (Ideal.ofBits .f32 0xFF800000#32) j (W.rowMajor.symm n)))
      (Ideal.ofBits .f32 0xFF800000#32) := by
  unfold pool Host.reduceWindow
  dsimp only
  refine congrArg₂ (fun f v => List.foldl f v (List.finRange W.numel)) (funext fun r => funext fun n => ?_) rfl
  refine congrArg (max r) ?_
  unfold cell
  by_cases hin : ∀ a, (![0, 0, 2, 2] : Fin 4 → Nat) a ≤ place j (W.rowMajor.symm n) a
      ∧ place j (W.rowMajor.symm n) a - (![0, 0, 2, 2] : Fin 4 → Nat) a < S8x1x512x512.size a
  · rw [dif_pos hin]
    exact dif_pos hin
  · rw [dif_neg hin]
    exact dif_neg hin

/-- The position of the window at `p` that reads `q` holds the entry at `q`. -/
theorem cell_of (x : S8x1x512x512.Idx → EReal) (v : EReal) (b : Fin 8) (p q : Pt) (k : W.Idx) (h0 : (k 0).val = 0) (h1 : (k 1).val = 0)
    (h2 : p.1.val + (k 2).val = q.1.val + 2) (h3 : p.2.val + (k 3).val = q.2.val + 2) : cell x v (at4 b p) k = x (at4 b q) := by
  have e : ∀ a, place (at4 b p) k a = (at4 b q a).val + (![0, 0, 2, 2] : Fin 4 → Nat) a := fun a => match a with
    | ⟨0, _⟩ => by show b.val * 1 + (k 0).val = b.val + 0; omega
    | ⟨1, _⟩ => by show 0 * 1 + (k 1).val = 0 + 0; omega
    | ⟨2, _⟩ => by show p.1.val * 1 + (k 2).val = q.1.val + 2; omega
    | ⟨3, _⟩ => by show p.2.val * 1 + (k 3).val = q.2.val + 2; omega
  unfold cell
  rw [dif_pos fun a => ⟨by rw [e a]; omega, by rw [e a, Nat.add_sub_cancel]; exact (at4 b q a).isLt⟩]
  congr 1
  funext a
  exact Fin.ext (by simp only [e a, Nat.add_sub_cancel])

/-- A position of the window at `p` holds the initial value or the entry of a point near `p`. -/
theorem cell_cases (x : S8x1x512x512.Idx → EReal) (v : EReal) (b : Fin 8) (p : Pt) (k : W.Idx) :
    cell x v (at4 b p) k = v ∨ ∃ q, Near p q ∧ cell x v (at4 b p) k = x (at4 b q) := by
  by_cases hin : ∀ a, (![0, 0, 2, 2] : Fin 4 → Nat) a ≤ place (at4 b p) k a
      ∧ place (at4 b p) k a - (![0, 0, 2, 2] : Fin 4 → Nat) a < S8x1x512x512.size a
  · right
    have h0 : (k 0).val < 1 := (k 0).isLt
    have h1 : (k 1).val < 1 := (k 1).isLt
    have h2 : (k 2).val < 5 := (k 2).isLt
    have h3 : (k 3).val < 5 := (k 3).isLt
    have i2 : 2 ≤ p.1.val * 1 + (k 2).val ∧ p.1.val * 1 + (k 2).val - 2 < 512 := hin 2
    have i3 : 2 ≤ p.2.val * 1 + (k 3).val ∧ p.2.val * 1 + (k 3).val - 2 < 512 := hin 3
    refine ⟨(⟨p.1.val + (k 2).val - 2, by omega⟩, ⟨p.2.val + (k 3).val - 2, by omega⟩), ?_, ?_⟩
    · refine ⟨⟨?_, ?_⟩, ⟨?_, ?_⟩⟩ <;> simp only <;> omega
    · exact cell_of x v b p _ k (by omega) (by omega) (by simp only; omega) (by simp only; omega)
  · exact Or.inl (dif_neg hin)

/-- The reference's pool at a point is at most `t` exactly when the entries of its window are. -/
theorem pool_le (b : Fin 8) (x : S8x1x512x512.Idx → EReal) (p : Pt) (t : EReal) :
    pool x (at4 b p) ≤ t ↔ (∀ q, Near p q → x (at4 b q) ≤ t) ∧ (False → 0 ≤ t) := by
  rw [pool_eq, foldl_max_le, neg_inf]
  constructor
  · rintro ⟨-, h⟩
    refine ⟨fun q hq => ?_, False.elim⟩
    obtain ⟨⟨a1, a2⟩, ⟨a3, a4⟩⟩ := hq
    let k : W.Idx := fun a => match a with
      | ⟨0, _⟩ => ⟨0, by show 0 < 1; decide⟩
      | ⟨1, _⟩ => ⟨0, by show 0 < 1; decide⟩
      | ⟨2, _⟩ => ⟨q.1.val + 2 - p.1.val, by show q.1.val + 2 - p.1.val < 5; omega⟩
      | ⟨3, _⟩ => ⟨q.2.val + 2 - p.2.val, by show q.2.val + 2 - p.2.val < 5; omega⟩
    have := h (W.rowMajor k) (List.mem_finRange _)
    rw [Equiv.symm_apply_apply, cell_of x ⊥ b p q k rfl rfl
      (by show p.1.val + (q.1.val + 2 - p.1.val) = q.1.val + 2; omega)
      (by show p.2.val + (q.2.val + 2 - p.2.val) = q.2.val + 2; omega)] at this
    exact this
  · rintro ⟨h, -⟩
    refine ⟨bot_le, fun n _ => ?_⟩
    rcases cell_cases x ⊥ b p (W.rowMajor.symm n) with e | ⟨q, hq, e⟩
    · rw [e]; exact bot_le
    · rw [e]; exact h q hq

/-! ## The masks -/

theorem uitofp_eq (m : IVec S8x1x512x512 1) : uitofp (F := Ideal) .f32 m = asReal m := by
  funext i
  show (((m i).toNat : ℝ) : EReal) = (if m i = 1#1 then 1 else 0 : EReal)
  have : m i = 0#1 ∨ m i = 1#1 := by generalize m i = b; revert b; decide
  rcases this with h | h <;> rw [h]
  · rw [if_neg (by decide), show (0#1).toNat = 0 by decide]; simp
  · rw [if_pos rfl, show (1#1).toNat = 1 by decide]; simp

/-- A batch of zeros. -/
def zeros : Maps := broadcastInDim S8x1x512x512 ![] bcast_S_S8x1x512x512 (constant S_ .f32 0x00000000#32)

theorem zeros_apply (i : S8x1x512x512.Idx) : zeros i = (0 : EReal) := Ideal.ofBits_zero_f32

/-- The points the reference suppresses. -/
theorem supp_eq (m : IVec S8x1x512x512 1) : cmpf .ogt (pool (uitofp (F := Ideal) .f32 m)) zeros = supp pool m := by
  rw [uitofp_eq]
  funext i
  show Ideal.cmp .ogt (pool (asReal m) i) (zeros i) = Ideal.cmp .ogt (pool (asReal m) i) 0
  rw [zeros_apply]

/-- The reference's scores without the suppressed ones. -/
theorem left_eq (m : IVec S8x1x512x512 1) (x : Maps) : select (supp pool m) zeros x = left pool x m := by
  funext i
  show (if supp pool m i = 1#1 then zeros i else x i) = if supp pool m i = 1#1 then (0 : EReal) else x i
  rw [zeros_apply]

variable (V0 : Valuation τ sig (Elt Ideal))

/-- The scores the reference is given. -/
abbrev scores : Maps := V0 (Proc.devRef .tc main_arg0)

theorem v3_eq : Value.res_main_v3 V0 = mask pool (scores V0) 0 := rfl

theorem v8_eq : Value.res_main_v8 V0 = supp pool (mask pool (scores V0) 0) := by
  rw [← supp_eq, ← v3_eq]; rfl

theorem v9_eq : Value.res_main_v9 V0 = left pool (scores V0) (mask pool (scores V0) 0) := by
  rw [← left_eq, ← v8_eq]; rfl

theorem v15_eq : Value.res_main_v15 V0 = mask pool (scores V0) 1 := by
  unfold Value.res_main_v15
  rw [v9_eq, v8_eq, v3_eq]; rfl

theorem v20_eq : Value.res_main_v20 V0 = supp pool (mask pool (scores V0) 1) := by
  rw [← supp_eq, ← v15_eq]; rfl

theorem v21_eq : Value.res_main_v21 V0 = left pool (scores V0) (mask pool (scores V0) 1) := by
  rw [← left_eq, ← v20_eq]; rfl

/-! ## The border -/

/-- The start index of a scatter, the same word wherever it is read. -/
abbrev startAt (c : BitVec 32) : IVec S1 32 := broadcastInDim S1 ![] bcast_S_S1 (constantI S_ 32 c)

/-- Two rows set to zero, from row `c` on. -/
def zeroRows (c : BitVec 32) (x : Maps) : Maps :=
  Host.scatter scatter_S8x1x512x512_S1_S8x1x2x512_0123_n_2_0 (fun _ b => b) x (startAt c)
    (broadcastInDim S8x1x2x512 ![] bcast_S_S8x1x2x512 (constant (F := Ideal) S_ .f32 0x00000000#32))

/-- Two columns set to zero, from column `c` on. -/
def zeroCols (c : BitVec 32) (x : Maps) : Maps :=
  Host.scatter scatter_S8x1x512x512_S1_S8x1x512x2_0123_n_3_0 (fun _ b => b) x (startAt c)
    (broadcastInDim S8x1x512x2 ![] bcast_S_S8x1x512x2 (constant (F := Ideal) S_ .f32 0x00000000#32))

/-- Where an update of the row scatter lands: at its own coordinates, `c` rows down. -/
theorem rows_lands (c : BitVec 32) (k : S8x1x2x512.Idx) (ι : S8x1x512x512.Idx) :
    scatter_S8x1x512x512_S1_S8x1x2x512_0123_n_2_0.resultIdx? k (startAt c) = some ι
      ↔ (k 0).val = (ι 0).val ∧ (k 1).val = (ι 1).val ∧ c.toInt + (k 2).val = (ι 2).val ∧ (k 3).val = (ι 3).val := by
  rw [Routing.resultIdx?_eq_some]
  constructor
  · intro h
    have h0 : (0 : Int) + ((k 0).val : Int) = (ι 0).val := h 0
    have h1 : (0 : Int) + ((k 1).val : Int) = (ι 1).val := h 1
    have h2 : c.toInt + ((k 2).val : Int) = (ι 2).val := h 2
    have h3 : (0 : Int) + ((k 3).val : Int) = (ι 3).val := h 3
    omega
  · rintro ⟨h0, h1, h2, h3⟩ a
    match a with
    | ⟨0, _⟩ => show (0 : Int) + ((k 0).val : Int) = (ι 0).val; omega
    | ⟨1, _⟩ => show (0 : Int) + ((k 1).val : Int) = (ι 1).val; omega
    | ⟨2, _⟩ => show c.toInt + ((k 2).val : Int) = (ι 2).val; omega
    | ⟨3, _⟩ => show (0 : Int) + ((k 3).val : Int) = (ι 3).val; omega

/-- Where an update of the column scatter lands: at its own coordinates, `c` columns to the right. -/
theorem cols_lands (c : BitVec 32) (k : S8x1x512x2.Idx) (ι : S8x1x512x512.Idx) :
    scatter_S8x1x512x512_S1_S8x1x512x2_0123_n_3_0.resultIdx? k (startAt c) = some ι
      ↔ (k 0).val = (ι 0).val ∧ (k 1).val = (ι 1).val ∧ (k 2).val = (ι 2).val ∧ c.toInt + (k 3).val = (ι 3).val := by
  rw [Routing.resultIdx?_eq_some]
  constructor
  · intro h
    have h0 : (0 : Int) + ((k 0).val : Int) = (ι 0).val := h 0
    have h1 : (0 : Int) + ((k 1).val : Int) = (ι 1).val := h 1
    have h2 : (0 : Int) + ((k 2).val : Int) = (ι 2).val := h 2
    have h3 : c.toInt + ((k 3).val : Int) = (ι 3).val := h 3
    omega
  · rintro ⟨h0, h1, h2, h3⟩ a
    match a with
    | ⟨0, _⟩ => show (0 : Int) + ((k 0).val : Int) = (ι 0).val; omega
    | ⟨1, _⟩ => show (0 : Int) + ((k 1).val : Int) = (ι 1).val; omega
    | ⟨2, _⟩ => show (0 : Int) + ((k 2).val : Int) = (ι 2).val; omega
    | ⟨3, _⟩ => show c.toInt + ((k 3).val : Int) = (ι 3).val; omega

/-- The row scatter at a point. -/
theorem zeroRows_apply (c : BitVec 32) (n : Nat) (hc : c.toInt = n) (x : Maps) (b : Fin 8) (p : Pt) :
    zeroRows c x (at4 b p) = if n ≤ p.1.val ∧ p.1.val < n + 2 then (0 : EReal) else x (at4 b p) := by
  unfold zeroRows
  by_cases h : n ≤ p.1.val ∧ p.1.val < n + 2
  · rw [if_pos h]
    refine Routing.scatter_set_hit _ x _ _ _ (0 : EReal) (fun k _ => Ideal.ofBits_zero_f32)
      (ValueIdx.ix4 b (0 : Fin 1) (⟨p.1.val - n, by omega⟩ : Fin 2) p.2) ((rows_lands c _ _).2 ⟨rfl, rfl, ?_, rfl⟩)
    show c.toInt + ((p.1.val - n : Nat) : Int) = p.1.val
    omega
  · rw [if_neg h]
    refine Routing.scatter_set_miss _ x _ _ _ fun k hk => h ?_
    have h2 : c.toInt + ((k 2).val : Int) = p.1.val := ((rows_lands c _ _).1 hk).2.2.1
    have : (k 2).val < 2 := (k 2).isLt
    omega

/-- The column scatter at a point. -/
theorem zeroCols_apply (c : BitVec 32) (n : Nat) (hc : c.toInt = n) (x : Maps) (b : Fin 8) (p : Pt) :
    zeroCols c x (at4 b p) = if n ≤ p.2.val ∧ p.2.val < n + 2 then (0 : EReal) else x (at4 b p) := by
  unfold zeroCols
  by_cases h : n ≤ p.2.val ∧ p.2.val < n + 2
  · rw [if_pos h]
    refine Routing.scatter_set_hit _ x _ _ _ (0 : EReal) (fun k _ => Ideal.ofBits_zero_f32)
      (ValueIdx.ix4 b (0 : Fin 1) p.1 (⟨p.2.val - n, by omega⟩ : Fin 2)) ((cols_lands c _ _).2 ⟨rfl, rfl, rfl, ?_⟩)
    show c.toInt + ((p.2.val - n : Nat) : Int) = p.2.val
    omega
  · rw [if_neg h]
    refine Routing.scatter_set_miss _ x _ _ _ fun k hk => h ?_
    have h2 : c.toInt + ((k 3).val : Int) = p.2.val := ((cols_lands c _ _).1 hk).2.2.2
    have : (k 3).val < 2 := (k 3).isLt
    omega

/-! ## The map -/

/-- The reference's suppressed maps, before they are laid out in lines. -/
def suppressed (x : Maps) : Maps :=
  zeroCols 510#32 (zeroRows 510#32 (zeroCols 0#32 (zeroRows 0#32 (select (mask pool x 2) x zeros))))

/-- The reference's suppressed maps at a point. -/
theorem suppressed_apply (x : Maps) (b : Fin 8) (p : Pt) :
    suppressed x (at4 b p) = nms (fun _ => False) (fun q => x (at4 b q)) p := by
  have hm := mask_iff (x := x) (B := fun _ => False) (at4 b) near_refl (pool_le b) 2 p
  unfold suppressed
  rw [zeroCols_apply _ 510 (by decide), zeroRows_apply _ 510 (by decide), zeroCols_apply _ 0 (by decide), zeroRows_apply _ 0 (by decide)]
  have h1 : p.1.val < 512 := p.1.isLt
  have h2 : p.2.val < 512 := p.2.isLt
  unfold nms
  by_cases he : Edge p
  · rw [if_pos he]
    by_cases c1 : 510 ≤ p.2.val ∧ p.2.val < 510 + 2
    · rw [if_pos c1]
    by_cases c2 : 510 ≤ p.1.val ∧ p.1.val < 510 + 2
    · rw [if_neg c1, if_pos c2]
    by_cases c3 : 0 ≤ p.2.val ∧ p.2.val < 0 + 2
    · rw [if_neg c1, if_neg c2, if_pos c3]
    rw [if_neg c1, if_neg c2, if_neg c3, if_pos]
    rcases he with (h | h) | (h | h) <;> omega
  · have hr1 : ¬ (p.1.val < 2 ∨ 510 ≤ p.1.val) := fun h => he (Or.inl h)
    have hr2 : ¬ (p.2.val < 2 ∨ 510 ≤ p.2.val) := fun h => he (Or.inr h)
    rw [if_neg he, if_neg (by omega), if_neg (by omega), if_neg (by omega), if_neg (by omega)]
    show (if mask pool x 2 (at4 b p) = 1#1 then x (at4 b p) else zeros (at4 b p)) = _
    rw [zeros_apply]
    classical exact if_congr hm rfl rfl

/-- The reference's flat maps are the suppressed ones laid out in lines. -/
theorem v41_eq : Value.res_main_v41 V0 = shapeCast S8x262144 (suppressed (scores V0)) shapeCasts_S8x1x512x512_S8x262144 := by
  unfold Value.res_main_v41
  rw [v21_eq, v20_eq, v15_eq]
  rfl

end Cert.ReferenceMap
-- ==== Proof.Lockstep.lean ====
/-
  Two straight lines of host operations run side by side.

  The kernel program and the reference end in the same chain of host operations, printed over two different
  tables of buffers.  This module states what it means for two buffer contents to AGREE on a list of pairs of
  buffers, and gives one rule per kind of operation: if the operands of an operation on the left and of the same
  operation on the right agree, the results agree too, and every pair that agreed before still does.
-/
module

public import Idealize.ShloMosaic.Lib.StableHlo.Run

@[expose] public section

noncomputable section

namespace Cert.Lockstep

open Idealize.ShloMosaic Idealize.ShloMosaic.TcCoe Idealize.ShloMosaic.StableHlo

variable {τ τ' : Topo} {sig sig' : RefSig} {Val : EltTy → Type}

variable {x₀ : Ref sig .tc} {z₀ : Ref sig' .tc}

/-- A function that gives the contents of the left buffer `x₀` from those of the right buffer `z₀`.  That it does
    stays true along both lines as long as neither buffer is written. -/
structure Link (x₀ : Ref sig .tc) (z₀ : Ref sig' .tc) (Val : EltTy → Type) where
  /-- The left contents from the right ones. -/
  fn : z₀.ty.Contents Val → x₀.ty.Contents Val

/-- Two contents agree: the link holds, and each listed pair of buffers holds the same value. -/
def Agree (L : Link x₀ z₀ Val) (S : List (Ref sig .tc × Ref sig' .tc)) (V : Valuation τ sig Val)
    (W : Valuation τ' sig' Val) : Prop :=
  V (Proc.devRef .tc x₀) = L.fn (W (Proc.devRef .tc z₀))
    ∧ ∀ p ∈ S, HEq (V (Proc.devRef .tc p.1)) (W (Proc.devRef .tc p.2))

/-- A left and a right buffer that are new to the link and to every listed pair. -/
abbrev Fresh (x₀ : Ref sig .tc) (z₀ : Ref sig' .tc) (S : List (Ref sig .tc × Ref sig' .tc)) (y : Ref sig .tc) (y' : Ref sig' .tc) : Prop :=
  (x₀ ≠ y ∧ z₀ ≠ y') ∧ y ∉ S.map Prod.fst ∧ y' ∉ S.map Prod.snd

/-- From contents that agree on `S`, the line `l` on the left and the line `l'` on the right lead to contents that
    agree on `Q`. -/
def Sim (L : Link x₀ z₀ Val) (S Q : List (Ref sig .tc × Ref sig' .tc)) (l : List (HloOp τ sig Val))
    (l' : List (HloOp τ' sig' Val)) : Prop :=
  ∀ V W, Agree L S V W → Agree L Q (after l V) (after l' W)

variable {L : Link x₀ z₀ Val} {S Q : List (Ref sig .tc × Ref sig' .tc)}
variable {l : List (HloOp τ sig Val)} {l' : List (HloOp τ' sig' Val)}

/-- At the end of both lines: the wanted pairs are among those that agree. -/
theorem Sim.done (h : Q.Forall (· ∈ S)) : Sim (τ := τ) (τ' := τ') L S Q ([] : List (HloOp τ sig Val)) [] :=
  fun _ _ hA => ⟨hA.1, fun p hp => hA.2 p (List.forall_iff_forall_mem.mp h p hp)⟩

/-- Fewer pairs may be carried on. -/
theorem Sim.weaken {S' : List (Ref sig .tc × Ref sig' .tc)} (h : S'.Forall (· ∈ S)) (k : Sim L S' Q l l') :
    Sim L S Q l l' :=
  fun V W hA => k V W ⟨hA.1, fun p hp => hA.2 p (List.forall_iff_forall_mem.mp h p hp)⟩

/-- One operation on each side, each writing one new buffer, with results that are the same. -/
theorem Agree.step {V : Valuation τ sig Val} {W : Valuation τ' sig' Val} (hA : Agree L S V W) {op : HloOp τ sig Val}
    {op' : HloOp τ' sig' Val} {y : Ref sig .tc} {y' : Ref sig' .tc} (hw : op.writes = {Proc.devRef .tc y})
    (hw' : op'.writes = {Proc.devRef .tc y'}) (hf : Fresh x₀ z₀ S y y')
    (h : HEq (op.result V (Proc.devRef .tc y)) (op'.result W (Proc.devRef .tc y'))) :
    Agree L ((y, y') :: S) (op.result V) (op'.result W) := by
  have keep : ∀ x : Ref sig .tc, x ≠ y → op.result V (Proc.devRef .tc x) = V (Proc.devRef .tc x) := fun x hx =>
    op.result_of_not_mem V (by rw [hw, Finset.mem_singleton]; exact devRef_ne_of_ne hx)
  have keep' : ∀ x : Ref sig' .tc, x ≠ y' → op'.result W (Proc.devRef .tc x) = W (Proc.devRef .tc x) := fun x hx =>
    op'.result_of_not_mem W (by rw [hw', Finset.mem_singleton]; exact devRef_ne_of_ne hx)
  refine ⟨by rw [keep _ hf.1.1, keep' _ hf.1.2]; exact hA.1, fun p hp => ?_⟩
  rcases List.mem_cons.mp hp with rfl | hp
  · exact h
  · rw [keep _ fun e => hf.2.1 (e ▸ List.mem_map_of_mem hp), keep' _ fun e => hf.2.2 (e ▸ List.mem_map_of_mem hp)]; exact hA.2 p hp

/-- One operation on the right alone, its result equal to what the left buffer `y` already holds. -/
theorem Agree.step_right {V : Valuation τ sig Val} {W : Valuation τ' sig' Val} (hA : Agree L S V W)
    {op' : HloOp τ' sig' Val} {y : Ref sig .tc} {y' : Ref sig' .tc}
    (hw' : op'.writes = {Proc.devRef .tc y'}) (hf : z₀ ≠ y' ∧ y' ∉ S.map Prod.snd)
    (h : HEq (V (Proc.devRef .tc y)) (op'.result W (Proc.devRef .tc y'))) :
    Agree L ((y, y') :: S) V (op'.result W) := by
  have keep' : ∀ x : Ref sig' .tc, x ≠ y' → op'.result W (Proc.devRef .tc x) = W (Proc.devRef .tc x) := fun x hx =>
    op'.result_of_not_mem W (by rw [hw', Finset.mem_singleton]; exact devRef_ne_of_ne hx)
  refine ⟨by rw [keep' _ hf.1]; exact hA.1, fun p hp => ?_⟩
  rcases List.mem_cons.mp hp with rfl | hp
  · exact h
  · rw [keep' _ fun e => hf.2 (e ▸ List.mem_map_of_mem hp)]; exact hA.2 p hp

/-! The same function of the same operands, at types that are equal. -/

theorem heq_fn1 {A A' B B' : Type} (hA : A = A') (hB : B = B') {f : A → B} {f' : A' → B'} (hf : HEq f f') {a : A} {a' : A'}
    (ha : HEq a a') : HEq (f a) (f' a') := by
  subst hA hB; cases hf; cases ha; rfl

theorem heq_fn2 {A A' B B' C C' : Type} (hA : A = A') (hB : B = B') (hC : C = C') {f : A → B → C} {f' : A' → B' → C'}
    (hf : HEq f f') {a : A} {a' : A'} (ha : HEq a a') {b : B} {b' : B'} (hb : HEq b b') : HEq (f a b) (f' a' b') := by
  subst hA hB hC; cases hf; cases ha; cases hb; rfl

theorem heq_fn3 {A A' B B' C C' D D' : Type} (hA : A = A') (hB : B = B') (hC : C = C') (hD : D = D')
    {f : A → B → C → D} {f' : A' → B' → C' → D'} (hf : HEq f f') {a : A} {a' : A'} (ha : HEq a a') {b : B} {b' : B'}
    (hb : HEq b b') {c : C} {c' : C'} (hc : HEq c c') : HEq (f a b c) (f' a' b' c') := by
  subst hA hB hC hD; cases hf; cases ha; cases hb; cases hc; rfl

theorem heq_reshape {T T' U U' : BufTy} (hT : T = T') (hU : U = U') (he : T.elt = U.elt) (he' : T'.elt = U'.elt)
    (hn : T.shape.ShapeCasts U.shape) (hn' : T'.shape.ShapeCasts U'.shape) {a : T.Contents Val} {a' : T'.Contents Val}
    (ha : HEq a a') : HEq (fun i => (he ▸ shapeCast U.shape a hn i : Val U.elt)) (fun i => (he' ▸ shapeCast U'.shape a' hn' i : Val U'.elt)) := by
  subst hT hU; cases ha; rfl

theorem contents_congr {T T' : BufTy} (h : T = T') : T.Contents Val = T'.Contents Val := congrArg (fun T : BufTy => T.Contents Val) h

/-- The same constant written on both sides. -/
theorem Sim.nullary {y : Ref sig .tc} {y' : Ref sig' .tc} {v : y.ty.Contents Val} {v' : y'.ty.Contents Val} {hy hy'}
    (hv : HEq v v') (hf : Fresh x₀ z₀ S y y') (k : Sim L ((y, y') :: S) Q l l') :
    Sim L S Q (StableHlo.nullary (τ := τ) y v hy :: l) (StableHlo.nullary (τ := τ') y' v' hy' :: l') := fun V W hA =>
  k _ _ (hA.step (nullary_writes _ _ _) (nullary_writes _ _ _) hf (by rw [nullary_result, nullary_result]; exact hv))

/-- The same operation of one operand on both sides. -/
theorem Sim.unary {x y : Ref sig .tc} {x' y' : Ref sig' .tc} {f : x.ty.Contents Val → y.ty.Contents Val}
    {f' : x'.ty.Contents Val → y'.ty.Contents Val} {hx hy hx' hy'} (tx : x.ty = x'.ty) (ty : y.ty = y'.ty) (h : HEq f f')
    (mx : (x, x') ∈ S) (hf : Fresh x₀ z₀ S y y') (k : Sim L ((y, y') :: S) Q l l') :
    Sim L S Q (StableHlo.unary (τ := τ) x y f hx hy :: l) (StableHlo.unary (τ := τ') x' y' f' hx' hy' :: l') := fun V W hA =>
  k _ _ (hA.step (unary_writes _ _ _ _ _) (unary_writes _ _ _ _ _) hf (by
    rw [unary_result, unary_result]
    exact heq_fn1 (contents_congr tx) (contents_congr ty) h (hA.2 _ mx)))

/-- The same operation of two operands on both sides. -/
theorem Sim.binary {a b y : Ref sig .tc} {a' b' y' : Ref sig' .tc}
    {f : a.ty.Contents Val → b.ty.Contents Val → y.ty.Contents Val}
    {f' : a'.ty.Contents Val → b'.ty.Contents Val → y'.ty.Contents Val} {ha hb hy ha' hb' hy'} (ta : a.ty = a'.ty)
    (tb : b.ty = b'.ty) (ty : y.ty = y'.ty) (h : HEq f f') (ma : (a, a') ∈ S) (mb : (b, b') ∈ S) (hf : Fresh x₀ z₀ S y y')
    (k : Sim L ((y, y') :: S) Q l l') :
    Sim L S Q (StableHlo.binary (τ := τ) a b y f ha hb hy :: l) (StableHlo.binary (τ := τ') a' b' y' f' ha' hb' hy' :: l') :=
  fun V W hA => k _ _ (hA.step (binary_writes ..) (binary_writes ..) hf (by
    rw [binary_result, binary_result]
    exact heq_fn2 (contents_congr ta) (contents_congr tb) (contents_congr ty) h (hA.2 _ ma) (hA.2 _ mb)))

/-- The same operation of three operands on both sides. -/
theorem Sim.ternary {c a b y : Ref sig .tc} {c' a' b' y' : Ref sig' .tc}
    {f : c.ty.Contents Val → a.ty.Contents Val → b.ty.Contents Val → y.ty.Contents Val}
    {f' : c'.ty.Contents Val → a'.ty.Contents Val → b'.ty.Contents Val → y'.ty.Contents Val}
    {hc ha hb hy hc' ha' hb' hy'} (tc : c.ty = c'.ty) (ta : a.ty = a'.ty) (tb : b.ty = b'.ty) (ty : y.ty = y'.ty)
    (h : HEq f f') (mc : (c, c') ∈ S) (ma : (a, a') ∈ S) (mb : (b, b') ∈ S) (hf : Fresh x₀ z₀ S y y')
    (k : Sim L ((y, y') :: S) Q l l') :
    Sim L S Q (StableHlo.ternary (τ := τ) c a b y f hc ha hb hy :: l)
      (StableHlo.ternary (τ := τ') c' a' b' y' f' hc' ha' hb' hy' :: l') :=
  fun V W hA => k _ _ (hA.step (ternary_writes ..) (ternary_writes ..) hf (by
    rw [ternary_result, ternary_result]
    exact heq_fn3 (contents_congr tc) (contents_congr ta) (contents_congr tb) (contents_congr ty) h (hA.2 _ mc) (hA.2 _ ma)
      (hA.2 _ mb)))

/-- The same change of shape on both sides. -/
theorem Sim.reshape {x y : Ref sig .tc} {x' y' : Ref sig' .tc} {he he' hn hn' hx hy hx' hy'} (tx : x.ty = x'.ty)
    (ty : y.ty = y'.ty) (mx : (x, x') ∈ S) (hf : Fresh x₀ z₀ S y y') (k : Sim L ((y, y') :: S) Q l l') :
    Sim L S Q (StableHlo.reshape (τ := τ) x y he hn hx hy :: l) (StableHlo.reshape (τ := τ') x' y' he' hn' hx' hy' :: l') :=
  fun V W hA => k _ _ (hA.step (reshape_writes ..) (reshape_writes ..) hf (by
    rw [reshape_result, reshape_result]
    exact heq_reshape tx ty he he' hn hn' (hA.2 _ mx)))

/-- A change of shape on the right alone, of the link's right buffer: its result is the link's left buffer. -/
theorem Sim.reshape_right {y' : Ref sig' .tc} {he' : z₀.ty.elt = y'.ty.elt}
    {hn' : z₀.ty.shape.ShapeCasts y'.ty.shape} {hx' hy'}
    (h : ∀ w : z₀.ty.Contents Val, HEq (L.fn w) (fun i => (he' ▸ shapeCast y'.ty.shape w hn' i : Val y'.ty.elt)))
    (hf : z₀ ≠ y' ∧ y' ∉ S.map Prod.snd) (k : Sim L ((x₀, y') :: S) Q l l') :
    Sim L S Q l (StableHlo.reshape (τ := τ') z₀ y' he' hn' hx' hy' :: l') :=
  fun V W hA => k _ _ (hA.step_right (reshape_writes ..) hf (by
    rw [reshape_result, hA.1]; exact h _))

end Cert.Lockstep

end
-- ==== Proof.Tail.lean ====
/-
  The operations after the suppressed score map are the same in both programs.

  From the flat map of suppressed scores on, the kernel program and the reference run the same host operations:
  the 4096 largest points, their 5 by 5 patches, the soft refinement, the dispersion and the bilinear reading.
  This module runs the two lines side by side and concludes that the three results agree.
-/
module

public import proofs.«01_k».proof.Proof.Lockstep
public import proofs.«01_k».proof.Proof.Gen.KernelIdeal.Launch
public import proofs.«01_k».proof.Proof.Gen.ReferenceIdeal.Run

@[expose] public section

set_option maxRecDepth 65536

noncomputable section

namespace Cert.Tail

open Idealize.ShloMosaic Idealize.ShloMosaic.TcCoe Idealize.ShloMosaic.StableHlo Cert.Lockstep

variable {F : FTy → Type} [FloatOps F]

/-- The kernel's operations after its region, but for the first, which flattens the region's result. -/
abbrev tailK : List (HloOp KernelIdeal.τ KernelIdeal.sig (Elt F)) :=
  (List.flatten [KernelIdeal.Gen.hostOps1, KernelIdeal.Gen.hostOps1_1, KernelIdeal.Gen.hostOps1_2, KernelIdeal.Gen.hostOps1_3,
    KernelIdeal.Gen.hostOps1_4, KernelIdeal.Gen.hostOps1_5, KernelIdeal.Gen.hostOps1_6, KernelIdeal.Gen.hostOps1_7,
    KernelIdeal.Gen.hostOps1_8, KernelIdeal.Gen.hostOps1_9, KernelIdeal.Gen.hostOps1_10, KernelIdeal.Gen.hostOps1_11,
    KernelIdeal.Gen.hostOps1_12, KernelIdeal.Gen.hostOps1_13, KernelIdeal.Gen.hostOps1_14, KernelIdeal.Gen.hostOps1_15,
    KernelIdeal.Gen.hostOps1_16, KernelIdeal.Gen.hostOps1_17, KernelIdeal.Gen.hostOps1_18, KernelIdeal.Gen.hostOps1_19,
    KernelIdeal.Gen.hostOps1_20, KernelIdeal.Gen.hostOps1_21, KernelIdeal.Gen.hostOps1_22]).tail

/-- The reference's operations after its flat map of suppressed scores. -/
abbrev tailR : List (HloOp ReferenceIdeal.τ ReferenceIdeal.sig (Elt F)) :=
  ReferenceIdeal.Value.ops_part1 ++ (ReferenceIdeal.Value.ops_part2 ++ (ReferenceIdeal.Value.ops_part3 ++ ReferenceIdeal.Value.ops_part4))

/-- The kernel's score image, the reshape of the reference's argument. -/
abbrev scores : Link KernelIdeal.main_v0 ReferenceIdeal.main_arg0 (Elt F) :=
  ⟨fun w => shapeCast KernelIdeal.S8x512x512 w KernelIdeal.Facts₀.shapeCasts_S8x1x512x512_S8x512x512⟩

set_option backward.isDefEq.respectTransparency false in
set_option maxHeartbeats 40000000 in
/-- From contents that agree on the flat map, the offset table and the image extents, the two lines lead to contents
    that agree on the three results. -/
theorem sim : Sim (scores (F := F))
    [(KernelIdeal.main_v2, ReferenceIdeal.main_v41), (KernelIdeal.main_cst, ReferenceIdeal.main_cst),
      (KernelIdeal.main_cst_0, ReferenceIdeal.main_cst_0)]
    [(KernelIdeal.main_v61, ReferenceIdeal.main_v101), (KernelIdeal.main_v49, ReferenceIdeal.main_v89),
      (KernelIdeal.main_v174, ReferenceIdeal.main_v215)] (tailK (F := F)) tailR := by
  simp only [tailK, tailR, ReferenceIdeal.Value.ops_part1, ReferenceIdeal.Value.ops_part3, ReferenceIdeal.Value.ops_part4, List.flatten_cons, List.flatten_nil, List.cons_append,
    List.nil_append, List.append_assoc, List.tail_cons, List.append_nil]
  repeat (first
    | ((with_reducible refine Sim.nullary ?_ ?_ ?_) <;> [exact HEq.rfl; decide +kernel; skip])
    | ((with_reducible refine Sim.unary ?_ ?_ ?_ ?_ ?_ ?_) <;> [rfl; rfl; exact HEq.rfl; decide +kernel; decide +kernel; skip])
    | ((with_reducible refine Sim.binary ?_ ?_ ?_ ?_ ?_ ?_ ?_ ?_) <;> [rfl; rfl; rfl; exact HEq.rfl; decide +kernel; decide +kernel; decide +kernel; skip])
    | ((with_reducible refine Sim.ternary ?_ ?_ ?_ ?_ ?_ ?_ ?_ ?_ ?_ ?_) <;> [rfl; rfl; rfl; rfl; exact HEq.rfl; decide +kernel; decide +kernel; decide +kernel; decide +kernel; skip])
    | ((with_reducible refine Sim.reshape ?_ ?_ ?_ ?_ ?_) <;> [rfl; rfl; decide +kernel; decide +kernel; skip])
    | ((with_reducible refine Sim.reshape_right ?_ ?_ ?_) <;> [exact fun _ => HEq.rfl; decide +kernel; skip]))
  exact Sim.done ⟨by decide +kernel, by decide +kernel, by decide +kernel⟩

end Cert.Tail

end
-- ==== Proof.Maps.lean ====
module

public import proofs.«01_k».proof.Proof.KernelArray
public import proofs.«01_k».proof.Proof.ReferenceMap
public import proofs.«01_k».proof.Proof.Tail

@[expose] public section

set_option maxRecDepth 16384

/-! # Both programs reach the same flat map of suppressed scores

The kernel program drops the channel axis of the scores, suppresses the eight maps and flattens them; the
reference suppresses with the channel axis in place and flattens.  The flat maps are equal (`flat_eq`), so
after that point the two programs agree on everything the rest of either reads (`agree`). -/

noncomputable section

namespace Cert.Maps

open Idealize.ShloMosaic Idealize.ShloMosaic.TcCoe Idealize.ShloMosaic.StableHlo
open Cert.Window Cert.Lockstep
open Cert.ReferenceMap (at4)

/-- The scores without their channel axis. -/
abbrev squeeze (x : ReferenceMap.Maps) : KernelIdeal.S8x512x512.Idx → EReal :=
  shapeCast KernelIdeal.S8x512x512 x KernelIdeal.Facts₀.shapeCasts_S8x1x512x512_S8x512x512

/-- Point `p` of map `b` without the channel axis is the same point with it. -/
theorem squeeze_apply (x : ReferenceMap.Maps) (b : Fin 8) (p : Pt) :
    squeeze x (ValueIdx.ix3 b p.1 p.2) = x (at4 b p) := by
  refine shapeCast_apply x _ _ _ ?_
  rw [Shape.rowMajor_val_three, Shape.rowMajor_val_four]
  show ((b.val * 1 + 0) * 512 + p.1.val) * 512 + p.2.val = (b.val * 512 + p.1.val) * 512 + p.2.val
  rw [Nat.mul_one, Nat.add_zero]

/-- Suppressing the maps without the channel axis is suppressing with it and dropping it afterwards. -/
theorem suppressed_squeeze (x : ReferenceMap.Maps) :
    KernelArray.suppressed (squeeze x) = squeeze (ReferenceMap.suppressed x) := by
  funext i
  have hi : i = ValueIdx.ix3 (i 0) (i 1) (i 2) := by
    funext a
    match a with
    | ⟨0, _⟩ => rfl
    | ⟨1, _⟩ => rfl
    | ⟨2, _⟩ => rfl
  have e : squeeze (ReferenceMap.suppressed x) i = ReferenceMap.suppressed x (at4 (i 0) (i 1, i 2)) := by
    conv_lhs => rw [hi]
    exact squeeze_apply _ (i 0) (i 1, i 2)
  refine Eq.trans ?_ (e.trans ((ReferenceMap.suppressed_apply x (i 0) (i 1, i 2)).trans (nms_edge _ _).symm)).symm
  unfold KernelArray.suppressed
  exact congrArg (fun f => nms Edge f (i 1, i 2)) (funext fun q => squeeze_apply x (i 0) q)

/-- The two flat maps of suppressed scores are equal. -/
theorem flat_eq (x : ReferenceMap.Maps) :
    (shapeCast KernelIdeal.S8x262144 (KernelArray.suppressed (squeeze x)) KernelIdeal.Facts₀.shapeCasts_S8x512x512_S8x262144
      : KernelIdeal.S8x262144.Idx → EReal)
      = shapeCast ReferenceIdeal.S8x262144 (ReferenceMap.suppressed x) ReferenceIdeal.Facts₀.shapeCasts_S8x1x512x512_S8x262144 := by
  rw [suppressed_squeeze]
  exact shapeCast_comp _ _ _

section Kernel

open Cert.KernelIdeal Cert.KernelIdeal.Gen

variable (m : (ℓ : Loc KernelIdeal.nD KernelIdeal.τ KernelIdeal.sig) → Buf (Elt Ideal) ℓ) (c : Dev KernelIdeal.nD)

/-- The kernel program's contents when its region has ended. -/
abbrev ended : Valuation KernelIdeal.τ KernelIdeal.sig (Elt Ideal) :=
  Pipeline.withArrays (cfgs 0).spec c (V0 m c) fun w => (dats m 0 c).arrAt w (cfgs 0).N

/-- The same after the region's result is flattened. -/
abbrev flattened : Valuation KernelIdeal.τ KernelIdeal.sig (Elt Ideal) :=
  after [StableHlo.reshape main_v1 main_v2 (rfl : (.f32 : EltTy) = .f32) Facts₀.shapeCasts_S8x512x512_S8x262144] (ended m c)

/-- The scores the kernel program is given. -/
abbrev given : ReferenceMap.Maps := m (c.tc.loc KernelIdeal.main_arg0)

/-- The region finds the scores without their channel axis. -/
theorem maps_eq : KernelArray.maps m c = squeeze (given m c) := by
  show StableHlo.after (List.flatten [hostOps0]) (fun b => m (c, b)) (Proc.devRef .tc main_v0) = _
  simp only [List.flatten_cons, List.flatten_nil, List.append_nil]
  after_results_simp
  rfl

/-- The kernel's two arrays are two buffers. -/
theorem arrays_apart : Function.Injective (Pipeline.arrRef (cfgs 0).spec) := by
  exact (by decide : Function.Injective (Pipeline.arrRef spec0))

/-- The region leaves the scores it read. -/
theorem ended_v0 : ended m c (Proc.devRef .tc main_v0) = squeeze (given m c) :=
  (Pipeline.withArrays_arr (cfgs 0).spec arrays_apart c (V0 m c) _ (0 : Fin 2)).trans
    (((dats m 0 c).arrAt_in 0 rfl _).trans ((A_eq m c 0).trans (maps_eq m c)))

/-- The region leaves the suppressed maps. -/
theorem ended_v1 : ended m c (Proc.devRef .tc main_v1) = KernelArray.suppressed (squeeze (given m c)) :=
  (Pipeline.withArrays_arr (cfgs 0).spec arrays_apart c (V0 m c) _ (1 : Fin 2)).trans
    ((KernelArray.array_eq m c).trans (congrArg KernelArray.suppressed (maps_eq m c)))

/-- The region leaves the table of window offsets. -/
theorem ended_cst : ended m c (Proc.devRef .tc main_cst) = fun i => FloatOps.ofBits (F := Ideal) .f32 (lit0 (S25x2.rowMajor i)) := by
  refine (Pipeline.withArrays_of_ne _ c (V0 m c) _ main_cst (by exact (by decide : ∀ w, Pipeline.arrRef spec0 w ≠ main_cst))).trans ?_
  show StableHlo.after (List.flatten [hostOps0]) (fun b => m (c, b)) (Proc.devRef .tc main_cst) = _
  simp only [List.flatten_cons, List.flatten_nil, List.append_nil]
  after_results_simp
  rfl

/-- The region leaves the pair of image extents. -/
theorem ended_cst_0 : ended m c (Proc.devRef .tc main_cst_0) = constant (F := Ideal) S2 .f32 0x43FF8000#32 := by
  refine (Pipeline.withArrays_of_ne _ c (V0 m c) _ main_cst_0 (by exact (by decide : ∀ w, Pipeline.arrRef spec0 w ≠ main_cst_0))).trans ?_
  show StableHlo.after (List.flatten [hostOps0]) (fun b => m (c, b)) (Proc.devRef .tc main_cst_0) = _
  simp only [List.flatten_cons, List.flatten_nil, List.append_nil]
  after_results_simp

/-- Flattening writes the flat map only. -/
theorem flattened_of_ne {r : Ref KernelIdeal.sig .tc} (h : r ≠ main_v2) :
    flattened m c (Proc.devRef .tc r) = ended m c (Proc.devRef .tc r) :=
  StableHlo.reshape_result_ne main_v1 main_v2 _ _ _ _ _ h

/-- The flat map is the suppressed maps in row-major order. -/
theorem flattened_v2 : flattened m c (Proc.devRef .tc main_v2)
    = shapeCast S8x262144 (KernelArray.suppressed (squeeze (given m c))) Facts₀.shapeCasts_S8x512x512_S8x262144 := by
  refine Eq.trans ?_ (congrArg (fun x => shapeCast S8x262144 x Facts₀.shapeCasts_S8x512x512_S8x262144) (ended_v1 m c))
  unfold flattened
  generalize ended m c = E
  after_results_simp
  rfl

end Kernel

/-- From the same scores, both programs hold the same flat map of suppressed scores, the same scores and the same
    two constant tables once the map is made. -/
theorem agree (m : (ℓ : Loc KernelIdeal.nD KernelIdeal.τ KernelIdeal.sig) → Buf (Elt Ideal) ℓ) (c : Dev KernelIdeal.nD)
    (W : Valuation ReferenceIdeal.τ ReferenceIdeal.sig (Elt Ideal)) (h : ReferenceMap.scores W = given m c) :
    Agree (Tail.scores (F := Ideal))
      [(KernelIdeal.main_v2, ReferenceIdeal.main_v41), (KernelIdeal.main_cst, ReferenceIdeal.main_cst),
        (KernelIdeal.main_cst_0, ReferenceIdeal.main_cst_0)]
      (flattened m c) (ReferenceIdeal.Value.val1 W) := by
  refine ⟨?_, List.forall_iff_forall_mem.mp ⟨?_, ?_, ?_⟩⟩
  · refine ((flattened_of_ne m c (by decide)).trans (ended_v0 m c)).trans ?_
    exact congrArg squeeze (h.symm.trans (ReferenceIdeal.Value.val1_main_arg0 W).symm)
  · refine heq_of_eq ((flattened_v2 m c).trans ((flat_eq _).trans ?_))
    rw [← h]
    exact ((ReferenceIdeal.Value.val1_main_v41 W).trans (ReferenceMap.v41_eq W)).symm
  · refine heq_of_eq (((flattened_of_ne m c (by decide)).trans (ended_cst m c)).trans ?_)
    exact (ReferenceIdeal.Value.val1_main_cst W).symm
  · refine heq_of_eq (((flattened_of_ne m c (by decide)).trans (ended_cst_0 m c)).trans ?_)
    exact (ReferenceIdeal.Value.val1_main_cst_0 W).symm

end Cert.Maps

end
-- ==== Proof.lean ====
/-
  The proof of `Cert.Claim`: the kernel program, its idealization and the reference run and leave their argument
  and every semaphore as they found them; the idealization is the kernel program read at the extended reals; and
  there the kernel program and the reference end with the same three results.

  The value claim goes in two parts.  `Maps.agree`: from equal scores both programs reach the same flat map of
  suppressed scores.  `Tail.sim`: from there their remaining host operations keep step up to the results.
-/
module

public import proofs.«01_k».proof.Defs
public import proofs.«01_k».proof.Proof.Gen.Kernel.Frame
public import proofs.«01_k».proof.Proof.Maps
public import Idealize.ShloMosaic.Lib.Claim

@[expose] public section

set_option maxRecDepth 16384

noncomputable section

namespace Cert.Proof

open Idealize.ShloMosaic Idealize.ShloMosaic.TcCoe Idealize.ShloMosaic.StableHlo Idealize.SL.Sem
open Cert.Lockstep

/-- The kernel program's contents at the end. -/
abbrev endK (m : (ℓ : Loc KernelIdeal.nD KernelIdeal.τ KernelIdeal.sig) → Buf (Elt Ideal) ℓ) (c : Dev KernelIdeal.nD) :
    Valuation KernelIdeal.τ KernelIdeal.sig (Elt Ideal) :=
  after Tail.tailK (Maps.flattened m c)

/-- The reference's contents at the end. -/
abbrev endR (m : (ℓ : Loc ReferenceIdeal.nD ReferenceIdeal.τ ReferenceIdeal.sig) → Buf (Elt Ideal) ℓ) (c : Dev ReferenceIdeal.nD) :
    Valuation ReferenceIdeal.τ ReferenceIdeal.sig (Elt Ideal) :=
  after Tail.tailR (ReferenceIdeal.Value.val1 (launchContents m c))

/-- The kernel program ends with its three results at `endK`. -/
theorem run_kernel (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r =>
      ∀ c : Dev KernelIdeal.nD,
        r.2.mem ((c.tc : Thread KernelIdeal.nD KernelIdeal.τ).loc KernelIdeal.main_v61) = endK m c (Proc.devRef .tc KernelIdeal.main_v61)
        ∧ r.2.mem ((c.tc : Thread KernelIdeal.nD KernelIdeal.τ).loc KernelIdeal.main_v49) = endK m c (Proc.devRef .tc KernelIdeal.main_v49)
        ∧ r.2.mem ((c.tc : Thread KernelIdeal.nD KernelIdeal.τ).loc KernelIdeal.main_v174) = endK m c (Proc.devRef .tc KernelIdeal.main_v174) :=
  (θ_run KernelIdeal.defs _ _).mono
    (fun _ h c => ⟨(h c).2 _ (Pipeline.mem_restRefs_of KernelIdeal.main_v61 (by decide) (by decide)),
      (h c).2 _ (Pipeline.mem_restRefs_of KernelIdeal.main_v49 (by decide) (by decide)),
      (h c).2 _ (Pipeline.mem_restRefs_of KernelIdeal.main_v174 (by decide) (by decide))⟩)
    (KernelIdeal.Gen.run_main m g)

/-- The reference's operations are the ones up to the flat map and then the rest. -/
theorem after_ops (V : Valuation ReferenceIdeal.τ ReferenceIdeal.sig (Elt Ideal)) :
    after ReferenceIdeal.Value.ops V = after Tail.tailR (ReferenceIdeal.Value.val1 V) :=
  after_append ReferenceIdeal.Value.ops_part0 Tail.tailR V

/-- The reference ends with its three results at `endR`. -/
theorem run_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      ∀ (c : Dev ReferenceIdeal.nD) (b : Ref ReferenceIdeal.sig .tc),
        r.2.mem ((c.tc : Thread ReferenceIdeal.nD ReferenceIdeal.τ).loc b) = endR m c (Proc.devRef .tc b) :=
  (θ_run ReferenceIdeal.defs _ _).mono (fun _ h c b => (h c b).trans (congrFun (after_ops _) _))
    (run_seq ReferenceIdeal.Value.scopedRefs_eq ReferenceIdeal.Value.scopedSems_eq ReferenceIdeal.defs ReferenceIdeal.main
      (fun _ => ReferenceIdeal.Value.ops) ReferenceIdeal.Value.main_eq (fun _ => ReferenceIdeal.Value.ops_sub) m g
      fun _ => ReferenceIdeal.Value.ops_fresh)

/-- From equal scores the two ends agree on the three results. -/
theorem ends_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = Maps.given m c) :
    Agree (Tail.scores (F := Ideal)) [(KernelIdeal.main_v61, ReferenceIdeal.main_v101), (KernelIdeal.main_v49, ReferenceIdeal.main_v89),
      (KernelIdeal.main_v174, ReferenceIdeal.main_v215)] (endK m c) (endR m' c) :=
  Tail.sim _ _ (Maps.agree m c (launchContents m' c) h)

/-- The kernel program and the reference end with equal results and an unchanged argument. -/
theorem same_results : algebraic_KernelIdeal_ReferenceIdeal (hKernelIdeal := KernelIdeal.Gen.facts)
    (hReferenceIdeal := ReferenceIdeal.Gen.facts) := by
  intro m g m' g' _ hagree
  refine ⟨fun c => endK m c (Proc.devRef .tc KernelIdeal.main_v61), fun c => endK m c (Proc.devRef .tc KernelIdeal.main_v49),
    fun c => endK m c (Proc.devRef .tc KernelIdeal.main_v174), ?_, ?_⟩
  · exact (θ_run KernelIdeal.defs _ _).mono (fun _ h c => ⟨(h.1 c).1, (h.1 c).2.1, (h.1 c).2.2, h.2 c⟩)
      (θ_run_and (run_kernel m g) (KernelIdeal.Gen.unchanged m g))
  · refine (θ_run ReferenceIdeal.defs _ _).mono (fun _ h c => ?_) (θ_run_and (run_reference m' g') (ReferenceIdeal.Value.run m' g'))
    have e := List.forall_iff_forall_mem.mpr (ends_agree m m' c (hagree c)).2
    exact ⟨(h.1 c _).trans (eq_of_heq e.1).symm, (h.1 c _).trans (eq_of_heq e.2.1).symm, (h.1 c _).trans (eq_of_heq e.2.2).symm,
      (h.2 c).2.2.2⟩

/-- The reference leaves its argument and every semaphore as it found them: it declares no semaphore. -/
theorem reference_quiescent : quiescent_ReferenceIdeal (hReferenceIdeal := ReferenceIdeal.Gen.facts) := by
  intro m g _
  exact (θ_run ReferenceIdeal.defs _ _).mono (fun r h => ⟨fun c => (h c).2.2.2, sem_eq_zero_of_no_sems (by decide) r.2⟩)
    (ReferenceIdeal.Value.run m g)

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_quiescent, trivial, same_results⟩

end Cert.Proof

end
